-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S64x128
  ∧ IdealRules.bf16_pack.Statement Cert.KernelIdeal.S128x128
  ∧ IdealRules.bf16_pack.Statement Cert.KernelIdeal.S64x64

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4x2048x16x128 : Shape := ⟨4, ![4, 2048, 16, 128]⟩
abbrev S4x2048x16 : Shape := ⟨3, ![4, 2048, 16]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn_part1 {F : FTy → Type} [FloatOps F] (main_arg4 : FVec F S4x2048x16 .f32) (main_v13 : IVec S_ 1) (main_v16 : IVec S4x2048x16x128 1) : IVec S_ 1 :=
  let main_c_5 : IVec S_ 1 := constantI S_ 1 1#1
  let main_v17 : IVec S_ 1 := (fun x v => Host.reduce IntOp.andi x v reducesTo_S4x2048x16x128_S_d0_1_2_3 h_S_) main_v16 main_c_5
  let main_v18 : IVec S_ 1 := andi main_v13 main_v17
  let main_v19 : FVec F S4x2048x16 .f32 := Host.absf main_arg4
  let main_cst_6 : FVec F S_ .f32 := constant S_ .f32 0x7F800000#32
  let main_v20 : FVec F S4x2048x16 .f32 := broadcastInDim S4x2048x16 ![] bcast_S_S4x2048x16 main_cst_6
  let main_v21 : IVec S4x2048x16 1 := cmpf .olt main_v19 main_v20
  let main_c_7 : IVec S_ 1 := constantI S_ 1 1#1
  let main_v22 : IVec S_ 1 := (fun x v => Host.reduce IntOp.andi x v reducesTo_S4x2048x16_S_d0_1_2 h_S_) main_v21 main_c_7
  let main_v23 : IVec S_ 1 := andi main_v18 main_v22
  main_v23

def fn {F : FTy → Type} [FloatOps F] (main_arg0 : FVec F S4x2048x16x128 .f32) (main_arg1 : FVec F S4x2048x16x128 .f32) (main_arg2 : FVec F S4x2048x16x128 .f32) (main_arg3 : FVec F S4x2048x16x128 .f32) (main_arg4 : FVec F S4x2048x16 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x16x128 .f32 := Host.absf main_arg1
  let main_cst_0 : FVec F S_ .f32 := constant S_ .f32 0x7F800000#32
  let main_v5 : FVec F S4x2048x16x128 .f32 := broadcastInDim S4x2048x16x128 ![] bcast_S_S4x2048x16x128 main_cst_0
  let main_v6 : IVec S4x2048x16x128 1 := cmpf .olt main_v4 main_v5
  let main_c_1 : IVec S_ 1 := constantI S_ 1 1#1
  let main_v7 : IVec S_ 1 := (fun x v => Host.reduce IntOp.andi x v reducesTo_S4x2048x16x128_S_d0_1_2_3 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x16x128 .f32 := Host.absf main_arg3
  let main_cst_4 : FVec F S_ .f32 := constant S_ .f32 0x7F800000#32
  let main_v15 : FVec F S4x2048x16x128 .f32 := broadcastInDim S4x2048x16x128 ![] bcast_S_S4x2048x16x128 main_cst_4
  let main_v16 : IVec S4x2048x16x128 1 := cmpf .olt main_v14 main_v15
  fn_part1 (F := F) main_arg4 main_v13 main_v16
-- ==== Kernel.lean ====
abbrev S4x2048x16x128 : Shape := ⟨4, ![4, 2048, 16, 128]⟩
abbrev S4x2048x16 : Shape := ⟨3, ![4, 2048, 16]⟩
abbrev S4x16x2048x128 : Shape := ⟨4, ![4, 16, 2048, 128]⟩
abbrev S64x2048x128 : Shape := ⟨3, ![64, 2048, 128]⟩
abbrev S4x16x2048 : Shape := ⟨3, ![4, 16, 2048]⟩
abbrev S64x2048x1 : Shape := ⟨3, ![64, 2048, 1]⟩
abbrev S16x64x128 : Shape := ⟨3, ![16, 64, 128]⟩
abbrev S16x64x1 : Shape := ⟨3, ![16, 64, 1]⟩
abbrev S128x128 : Shape := ⟨2, ![128, 128]⟩
abbrev S64x64 : Shape := ⟨2, ![64, 64]⟩
abbrev S1x64x1 : Shape := ⟨3, ![1, 64, 1]⟩
abbrev S64x1 : Shape := ⟨2, ![64, 1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S128x64 : Shape := ⟨2, ![128, 64]⟩
abbrev S128x1 : Shape := ⟨2, ![128, 1]⟩

abbrev nBuf : Space → Nat
  | .hbm => 18
  | .vmem => 28
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x128, .f32⟩
  | .hbm, ⟨2, _⟩ => ⟨S4x2048x16x128, .f32⟩
  | .hbm, ⟨3, _⟩ => ⟨S4x2048x16x128, .f32⟩
  | .hbm, ⟨4, _⟩ => ⟨S4x2048x16, .f32⟩
  | .hbm, ⟨5, _⟩ => ⟨S4x16x2048x128, .f32⟩
  | .hbm, ⟨6, _⟩ => ⟨S64x2048x128, .f32⟩
  | .hbm, ⟨7, _⟩ => ⟨S4x16x2048x128, .f32⟩
  | .hbm, ⟨8, _⟩ => ⟨S64x2048x128, .f32⟩
  | .hbm, ⟨9, _⟩ => ⟨S4x16x2048x128, .f32⟩
  | .hbm, ⟨10, _⟩ => ⟨S64x2048x128, .f32⟩
  | .hbm, ⟨11, _⟩ => ⟨S4x16x2048x128, .f32⟩
  | .hbm, ⟨12, _⟩ => ⟨S64x2048x128, .f32⟩
  | .hbm, ⟨13, _⟩ => ⟨S4x16x2048, .f32⟩
  | .hbm, ⟨14, _⟩ => ⟨S64x2048x1, .f32⟩
  | .hbm, ⟨15, _⟩ => ⟨S64x2048x128, .f32⟩
  | .hbm, ⟨16, _⟩ => ⟨S4x16x2048x128, .f32⟩
  | .hbm, ⟨17, _⟩ => ⟨S4x2048x16x128, .f32⟩
  | .local _ .vmem, ⟨0, _⟩ => ⟨S16x64x128, .f32⟩
  | .local _ .vmem, ⟨1, _⟩ => ⟨S16x64x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S16x64x128, .f32⟩
  | .local _ .vmem, ⟨7, _⟩ => ⟨S16x64x128, .f32⟩
  | .local _ .vmem, ⟨8, _⟩ => ⟨S16x64x1, .f32⟩
  | .local _ .vmem, ⟨9, _⟩ => ⟨S16x64x1, .f32⟩
  | .local _ .vmem, ⟨10, _⟩ => ⟨S16x64x128, .f32⟩
  | .local _ .vmem, ⟨11, _⟩ => ⟨S16x64x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_scratch15 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F]
-- ==== ReferenceIdeal.lean ====
abbrev S4x2048x16x128 : Shape := ⟨4, ![4, 2048, 16, 128]⟩
abbrev S4x2048x16 : Shape := ⟨3, ![4, 2048, 16]⟩
abbrev S2048x4x16x128 : Shape := ⟨4, ![2048, 4, 16, 128]⟩
abbrev S_ : Shape := ⟨0, ![]⟩
abbrev S2048x4x16 : Shape := ⟨3, ![2048, 4, 16]⟩
abbrev S4x16x128x128 : Shape := ⟨4, ![4, 16, 128, 128]⟩
abbrev S1x4x16x128 : Shape := ⟨4, ![1, 4, 16, 128]⟩
abbrev S4x16x128 : Shape := ⟨3, ![4, 16, 128]⟩
abbrev S1x4x16 : Shape := ⟨3, ![1, 4, 16]⟩
abbrev S4x16 : Shape := ⟨2, ![4, 16]⟩
abbrev S4x16x128x1 : Shape := ⟨4, ![4, 16, 128, 1]⟩
abbrev S4x16x1 : Shape := ⟨3, ![4, 16, 1]⟩
abbrev S4x16x1x128 : Shape := ⟨4, ![4, 16, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x128, .f32⟩
  | .hbm, ⟨2, _⟩ => ⟨S4x2048x16x128, .f32⟩
  | .hbm, ⟨3, _⟩ => ⟨S4x2048x16x128, .f32⟩
  | .hbm, ⟨4, _⟩ => ⟨S4x2048x16, .f32⟩
  | .hbm, ⟨5, _⟩ => ⟨S2048x4x16x128, .f32⟩
  | .hbm, ⟨6, _⟩ => ⟨S_, .f32⟩
  | .hbm, ⟨7, _⟩ => ⟨S2048x4x16x128, .f32⟩
  | .hbm, ⟨8, _⟩ => ⟨S2048x4x16x128, .f32⟩
  | .hbm, ⟨9, _⟩ => ⟨S2048x4x16x128, .f32⟩
  | .hbm, ⟨10, _⟩ => ⟨S2048x4x16x128, .f32⟩
  | .hbm, ⟨11, _⟩ => ⟨S2048x4x16x128, .f32⟩
  | .hbm, ⟨12, _⟩ => ⟨S2048x4x16, .f32⟩
  | .hbm, ⟨13, _⟩ => ⟨S_, .f32⟩
  | .hbm, ⟨14, _⟩ => ⟨S4x16x128x128, .f32⟩
  | .hbm, ⟨15, _⟩ => ⟨S_, .f32⟩
  | .hbm, ⟨16, _⟩ => ⟨S2048x4x16x128, .f32⟩
  | .hbm, ⟨17, _⟩ => ⟨S_, .i32⟩
  | .hbm, ⟨18, _⟩ => ⟨S2048x4x16x128, .f32⟩
  | .hbm, ⟨19, _⟩ => ⟨S2048x4x16x128, .f32⟩
  | .hbm, ⟨20, _⟩ => ⟨S2048x4x16x128, .f32⟩
  | .hbm, ⟨21, _⟩ => ⟨S2048x4x16x128, .f32⟩
  | .hbm, ⟨22, _⟩ => ⟨S2048x4x16, .f32⟩
  | .hbm, ⟨23, _⟩ => ⟨S_, .i32⟩
  | .hbm, ⟨24, _⟩ => ⟨S4x16x128x128, .f32⟩
  | .hbm, ⟨25, _⟩ => ⟨S2048x4x16x128, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x4x16x128, .f32⟩
  | .hbm, ⟨32, _⟩ => ⟨S4x16x128, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x4x16x128, .f32⟩
  | .hbm, ⟨37, _⟩ => ⟨S4x16x128, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x16x128, .f32⟩
  | .hbm, ⟨42, _⟩ => ⟨S4x16x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x4x16x128, .f32⟩
  | .hbm, ⟨47, _⟩ => ⟨S4x16x128, .f32⟩
  | .hbm, ⟨48, _⟩ => ⟨S_, .i32⟩
  | .hbm, ⟨49, _⟩ => ⟨S_, .i32⟩
  | .hbm, ⟨50, _⟩ => ⟨S1x4x16, .f32⟩
  | .hbm, ⟨51, _⟩ => ⟨S4x16, .f32⟩
  | .hbm, ⟨52, _⟩ => ⟨S4x16x128, .f32⟩
  | .hbm, ⟨53, _⟩ => ⟨S4x16x128x1, .f32⟩
  | .hbm, ⟨54, _⟩ => ⟨S4x16x128x128, .f32⟩
  | .hbm, ⟨55, _⟩ => ⟨S4x16x128x128, .f32⟩
  | .hbm, ⟨56, _⟩ => ⟨S4x16x128, .f32⟩
  | .hbm, ⟨57, _⟩ => ⟨S4x16x128, .f32⟩
  | .hbm, ⟨58, _⟩ => ⟨S4x16x1, .f32⟩
  | .hbm, ⟨59, _⟩ => ⟨S4x16x128, .f32⟩
  | .hbm, ⟨60, _⟩ => ⟨S4x16x128, .f32⟩
  | .hbm, ⟨61, _⟩ => ⟨S4x16x128x1, .f32⟩
  | .hbm, ⟨62, _⟩ => ⟨S4x16x1x128, .f32⟩
  | .hbm, ⟨63, _⟩ => ⟨S4x16x128x128, .f32⟩
  | .hbm, ⟨64, _⟩ => ⟨S4x16x128x128, .f32⟩
  | .hbm, ⟨65, _⟩ => ⟨S4x16x128x128, .f32⟩
  | .hbm, ⟨66, _⟩ => ⟨S4x16x128x128, .f32⟩
  | .hbm, ⟨67, _⟩ => ⟨S4x16x128, .f32⟩
  | .hbm, ⟨68, _⟩ => ⟨S1x4x16x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S2048x4x16x128, .f32⟩
  | .hbm, ⟨73, _⟩ => ⟨S_, .i32⟩
  | .hbm, ⟨74, _⟩ => ⟨S_, .i32⟩
  | .hbm, ⟨75, _⟩ => ⟨S4x2048x16x128, .f32⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_c : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_while0c_c_9 : Ref sig .tc := ⟨.hbm, 26, rfl⟩
abbrev main_while0c_v11 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_v0 : Ref sig .tc := ⟨.hbm, 31, rfl⟩
abbrev main_while0b_v11 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_v0 : Ref sig .tc := ⟨.hbm, 36, rfl⟩
abbrev main_while0b_v12 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_c_1 : Ref sig .tc := ⟨.hbm, 40, rfl⟩
abbrev main_while0b_call2_v0 : Ref sig .tc := ⟨.hbm, 41, rfl⟩
abbrev main_while0b_v13 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_c_1 : Ref sig .tc := ⟨.hbm, 45, rfl⟩
abbrev main_while0b_call3_v0 : Ref sig .tc := ⟨.hbm, 46, rfl⟩
abbrev main_while0b_v14 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_v0 : Ref sig .tc := ⟨.hbm, 50, rfl⟩
abbrev main_while0b_v15 : Ref sig .tc := ⟨.hbm, 51, rfl⟩
abbrev main_while0b_v16 : Ref sig .tc := ⟨.hbm, 52, rfl⟩
abbrev main_while0b_v17 : Ref sig .tc := ⟨.hbm, 53, rfl⟩
abbrev main_while0b_v18 : Ref sig .tc := ⟨.hbm, 54, rfl⟩
abbrev main_while0b_v19 : Ref sig .tc := ⟨.hbm, 55, rfl⟩
abbrev main_while0b_v20 : Ref sig .tc := ⟨.hbm, 56, rfl⟩
abbrev main_while0b_v21 : Ref sig .tc := ⟨.hbm, 57, rfl⟩
abbrev main_while0b_v22 : Ref sig .tc := ⟨.hbm, 58, rfl⟩
abbrev main_while0b_v23 : Ref sig .tc := ⟨.hbm, 59, rfl⟩
abbrev main_while0b_v24 : Ref sig .tc := ⟨.hbm, 60, rfl⟩
abbrev main_while0b_v25 : Ref sig .tc := ⟨.hbm, 61, rfl⟩
abbrev main_while0b_v26 : Ref sig .tc := ⟨.hbm, 62, rfl⟩
abbrev main_while0b_v27 : Ref sig .tc := ⟨.hbm, 63, rfl⟩
abbrev main_while0b_v28 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_v32 : Ref sig .tc := ⟨.hbm, 72, rfl⟩
abbrev main_while0b_c_9 : Ref sig .tc := ⟨.hbm, 73, rfl⟩
abbrev main_while0b_v33 : Ref sig .tc := ⟨.hbm, 74, rfl⟩
abbrev main_v10 : Ref sig .tc := ⟨.hbm, 75, rfl⟩

abbrev nD : Nat := 1
abbrev τ : Topo := Topo.v7x

variable {F : FTy → Type} [FloatOps F]

abbrev main_while0_count : Scf.Loop 32 := ⟨0#32, 2048#32, 1#32⟩
-- ==== Proof.LaneFn.lean ====
/- What the kernel's body computes for one head's chunk, as a function of that head's blocks. -/
module

public import proofs.«01_k».proof.Proof.Gen.KernelIdeal.Skeleton

@[expose] public section

noncomputable section

namespace Cert.KernelIdeal.Lane

open Idealize.ShloMosaic Idealize.ShloMosaic.TcCoe
open Cert.KernelIdeal Cert.KernelIdeal.Gen

variable {F : FTy → Type} [FloatOps F]

/-- The high part of a vector: its rounding to bf16, read back. -/
def hi {s : Shape} (x : FVec F s .f32) : FVec F s .f32 := extf .f32 (truncf .bf16 x)
/-- The low part: what the rounding left. -/
def lo {s : Shape} (x : FVec F s .f32) : FVec F s .f32 := subf x (hi x)
/-- The product of two vectors in three passes: high by high, high by low, low by high. -/
def d3 {sl sr so : Shape} (d : DotDims sl sr so) (x : FVec F sl .f32) (y : FVec F sr .f32) : FVec F so .f32 :=
  addf (addf (matmul d none (hi x) (hi y) (constant so .f32 0x00000000#32))
    (matmul d none (hi x) (lo y) (constant so .f32 0x00000000#32)))
    (matmul d none (lo x) (hi y) (constant so .f32 0x00000000#32))

/-- The triangle of ones the kernel makes from two iotas and a comparison. -/
def tri (p : CmpIPredicate) : FVec F S64x64 .f32 :=
  sitofp .f32 (extui 32 (cmpi p (iota .tc S64x64 32 [1] iota_S64x64_d1_w32) (iota .tc S64x64 32 [0] iota_S64x64_d0_w32)) natLt_1_32)

/-- A block of one head as a matrix. -/
def sq3 (x : Vec F S1x64x128 .f32) : FVec F S64x128 .f32 := shapeCast S64x128 x shapeCasts_S1x64x128_S64x128
/-- The write strengths as a column. -/
def sqb (x : Vec F S1x64x1 .f32) : FVec F S64x1 .f32 := shapeCast S64x1 x shapeCasts_S1x64x1_S64x1

/-- The summed log-decay. -/
def lgV (g : Vec F S1x64x128 .f32) : FVec F S64x128 .f32 :=
  addf (matmul dot_S64x64_S64x128_S64x128_1_0_0_1_n_n none (tri .sle) (hi (sq3 g)) (constant S64x128 .f32 0x00000000#32))
    (matmul dot_S64x64_S64x128_S64x128_1_0_0_1_n_n none (tri .sle) (lo (sq3 g)) (constant S64x128 .f32 0x00000000#32))
/-- The decay so far. -/
def lamV (g : Vec F S1x64x128 .f32) : FVec F S64x128 .f32 := exp (lgV g)
/-- Keys above queries, both scaled. -/
def kqV (q k g : Vec F S1x64x128 .f32) (b : Vec F S1x64x1 .f32) : FVec F S128x128 .f32 :=
  concatenate S128x128 0
    [⟨S64x128, mulf (sq3 k) (mulf (broadcastTo S64x128 (sqb b) broadcasts_S64x1_S64x128) (lamV g))⟩,
     ⟨S64x128, mulf (sq3 q) (mulf (lamV g) (broadcast S64x128 (Scalar.ofBits .f32 0x3DB504F3#32)))⟩]
    concatenates_S64x128_S64x128_S128x128_d0
/-- Keys with the decay so far taken out. -/
def kiV (k g : Vec F S1x64x128 .f32) : FVec F S64x128 .f32 :=
  mulf (sq3 k) (exp (subf (broadcast S64x128 (Scalar.ofBits .f32 0x00000000#32)) (lgV g)))
/-- Keys and queries against the keys. -/
def a2V (q k g : Vec F S1x64x128 .f32) (b : Vec F S1x64x1 .f32) : FVec F S128x64 .f32 :=
  d3 dot_S128x128_S64x128_S128x64_1_1_0_0_n_n (kqV q k g b) (kiV k g)
/-- Keys and queries against the state the chunk starts from. -/
def svV (q k g : Vec F S1x64x128 .f32) (b : Vec F S1x64x1 .f32) (s : Vec F S128x128 .f32) : FVec F S128x128 .f32 :=
  d3 dot_S128x128_S128x128_S128x128_1_0_0_1_n_n (kqV q k g b) s
/-- The square product. -/
def d3s (x y : FVec F S64x64 .f32) : FVec F S64x64 .f32 := d3 dot_S64x64_S64x64_S64x64_1_0_0_1_n_n x y
/-- The chunk's coupling. -/
def nV (a2 : FVec F S128x64 .f32) : FVec F S64x64 .f32 :=
  mulf (subf (broadcast S64x64 (Scalar.ofBits .f32 0x00000000#32)) (extractStridedSlice S64x64 ![0, 0] a2 slices_S128x64_o0_0_S64x64))
    (tri .slt)
/-- One squaring. -/
def sqS (n : FVec F S64x64 .f32) : FVec F S64x64 .f32 := d3s n n
/-- One factor more in the product. -/
def prS (p n : FVec F S64x64 .f32) : FVec F S64x64 .f32 := addf p (d3s p n)
/-- The product of one plus the coupling, its square, …, its 32nd power. -/
def pV (n : FVec F S64x64 .f32) : FVec F S64x64 .f32 :=
  prS (prS (prS (prS (prS (addf (tri .eq) n) (sqS n)) (sqS (sqS n))) (sqS (sqS (sqS n)))) (sqS (sqS (sqS (sqS n)))))
    (sqS (sqS (sqS (sqS (sqS n)))))
/-- The corrections. -/
def uV (p : FVec F S64x64 .f32) (v : Vec F S1x64x128 .f32) (b : Vec F S1x64x1 .f32) (sv : FVec F S128x128 .f32) : FVec F S64x128 .f32 :=
  d3 dot_S64x64_S64x128_S64x128_1_0_0_1_n_n p
    (subf (mulf (broadcastTo S64x128 (sqb b) broadcasts_S64x1_S64x128) (sq3 v))
      (extractStridedSlice S64x128 ![0, 0] sv slices_S128x128_o0_0_S64x128))
/-- The corrections from the blocks. -/
def uL (q k v g : Vec F S1x64x128 .f32) (b : Vec F S1x64x1 .f32) (s : Vec F S128x128 .f32) : FVec F S64x128 .f32 :=
  uV (pV (nV (a2V q k g b))) v b (svV q k g b s)
/-- The outputs of the chunk, in the block's shape. -/
def oL (q k v g : Vec F S1x64x128 .f32) (b : Vec F S1x64x1 .f32) (s : Vec F S128x128 .f32) : FVec F S1x64x128 .f32 :=
  shapeCast S1x64x128
    (addf (extractStridedSlice S64x128 ![64, 0] (svV q k g b s) slices_S128x128_o64_0_S64x128)
      (d3 dot_S64x64_S64x128_S64x128_1_0_0_1_n_n
        (mulf (extractStridedSlice S64x64 ![64, 0] (a2V q k g b) slices_S128x64_o64_0_S64x64) (tri .sle))
        (uL q k v g b s)))
    shapeCasts_S64x128_S1x64x128
/-- The state after the chunk. -/
def sL (q k v g : Vec F S1x64x128 .f32) (b : Vec F S1x64x1 .f32) (s : Vec F S128x128 .f32) : FVec F S128x128 .f32 :=
  shapeCast S128x128
    (mulf
      (broadcastTo S128x128
        (shapeCast S128x1
          (shapeCast S128 (extractStridedSlice S1x128 ![63, 0] (lamV g) slices_S64x128_o63_0_S1x128) shapeCasts_S1x128_S128)
          shapeCasts_S128_S128x1)
        broadcasts_S128x1_S128x128)
      (addf s (d3 dot_S64x128_S64x128_S128x128_0_0_1_1_n_n (kiV k g) (uL q k v g b s))))
    shapeCasts_S128x128_S128x128
/-- The state a head starts from: zeros. -/
def s0L : FVec F S128x128 .f32 :=
  shapeCast S128x128 (broadcast S128x128 (Scalar.ofBits .f32 0x00000000#32)) shapeCasts_S128x128_S128x128

end Cert.KernelIdeal.Lane

end
-- ==== Proof.Lanes.lean ====
/- The pieces the kernel's body leaves, head by head, are the head's function of the head's blocks. -/
module

public import proofs.«01_k».proof.Proof.Gen.KernelIdeal.Frame
public import proofs.«01_k».proof.Proof.LaneFn
public import Idealize.ShloMosaic.Lib.Pipeline.ValueKit.Tiles
public import Idealize.ShloMosaic.Lib.ValueIdxCoords

@[expose] public section

set_option maxRecDepth 16384

noncomputable section

namespace Cert.KernelIdeal.Lane

open Idealize.ShloMosaic Idealize.ShloMosaic.TcCoe Idealize.ShloMosaic.Tactic Idealize.ShloMosaic.ValueIdx
open Cert.KernelIdeal Cert.KernelIdeal.Gen

variable {F : FTy → Type} [FloatOps F]

/-- The number of heads in a block. -/
abbrev G : ℕ := 16
/-- The shape of a block of heads. -/
abbrev BS : Shape := S16x64x128
/-- The shape of a block of write strengths. -/
abbrev BB : Shape := S16x64x1

/-- A head's rows lie inside the block. -/
theorem inbL (l : ℕ) (h : l < G) : ∀ a, (![l, 0, 0] : Fin 3 → Nat) a + S1x64x128.size a ≤ BS.size a := fun a => by
  match a with
  | 0 => show l + 1 ≤ G; omega
  | 1 => exact Nat.le_refl _
  | 2 => exact Nat.le_refl _
/-- A head's betas lie inside the block. -/
theorem inbB (l : ℕ) (h : l < G) : ∀ a, (![l, 0, 0] : Fin 3 → Nat) a + S1x64x1.size a ≤ BB.size a := fun a => by
  match a with
  | 0 => show l + 1 ≤ G; omega
  | 1 => exact Nat.le_refl _
  | 2 => exact Nat.le_refl _

/-- Head `l`'s part of a block, as the body loads it. -/
def ldL (M : Memref sig .tc .vmem BS .f32) (hM : M.IsWhole) (x : Vec F BS .f32) (l : Fin G) : Vec F S1x64x128 .f32 :=
  View.readAt (Elt F) M.view (Rect.unit (s := BS) ![l.val, 0, 0] S1x64x128.size (inbL l.val l.isLt)).toLoadRect (hM.unread x)
/-- Head `l`'s write strengths, as the body loads them. -/
def ldB (M : Memref sig .tc .vmem BB .f32) (hM : M.IsWhole) (x : Vec F BB .f32) (l : Fin G) : Vec F S1x64x1 .f32 :=
  View.readAt (Elt F) M.view (Rect.unit (s := BB) ![l.val, 0, 0] S1x64x1.size (inbB l.val l.isLt)).toLoadRect (hM.unread x)
/-- A head's carried state, as the body loads it. -/
def ldS (M : Memref sig .tc .vmem S128x128 .f32) (hM : M.IsWhole) (x : Vec F S128x128 .f32) : Vec F S128x128 .f32 :=
  View.readAt (Elt F) M.view (Rect.unit (s := S128x128) ![0, 0] S128x128.size inb_S128x128_S128x128_0_0).toLoadRect (hM.unread x)
/-- The zero state, as the body loads it after storing it. -/
def ldZ (M : Memref sig .tc .vmem S128x128 .f32) : Vec F S128x128 .f32 :=
  View.readCov M.view [(⟨Rect.unit (s := S128x128) ![0, 0] S128x128.size inb_S128x128_S128x128_0_0, s0L⟩ : View.Piece (Elt F) S128x128 .f32)]
    (Rect.unit (s := S128x128) ![0, 0] S128x128.size inb_S128x128_S128x128_0_0).toLoadRect

/-- The stores of the heads below `n`, last first. -/
def piecesO (f : Fin G → Vec F S1x64x128 .f32) : (n : ℕ) → n ≤ G → List (View.Piece (Elt F) BS .f32)
  | 0, _ => []
  | n + 1, h => ⟨Rect.unit (s := BS) ![n, 0, 0] S1x64x128.size (inbL n h), f ⟨n, h⟩⟩ :: piecesO f n (Nat.le_of_succ_le h)

/-- The one store of a state. -/
def pieceS (f : Vec F S128x128 .f32) : View.Piece (Elt F) S128x128 .f32 :=
  ⟨Rect.unit (s := S128x128) ![0, 0] S128x128.size inb_S128x128_S128x128_0_0, f⟩

/-- What a whole view reads after the store of a state, last, is the state. -/
theorem read_pieceS {sig : RefSig} {κ : Kind} {sp : Space} (v : View sig κ sp S128x128 .f32)
    (L L' : List (View.Piece (Elt F) S128x128 .f32)) (f : Vec F S128x128 .f32) (h : L = pieceS f :: L') :
    v.read (Elt F) (v.writes (Elt F) v.junk L) = f := by
  subst h
  rw [View.read_writes_eq_canon]
  · exact View.canon_cons_unit_zero (by decide) _ _ _
  · intro y
    refine ⟨_, List.mem_cons_self, ?_⟩
    exact View.mem_set_unit_zero (by decide) inb_S128x128_S128x128_0_0 y

/-- Head `l`'s part of a block. -/
def blkL (x : Vec F BS .f32) (l : Fin G) : Vec F S1x64x128 .f32 :=
  View.ld x (Rect.unit (s := BS) ![l.val, 0, 0] S1x64x128.size (inbL l.val l.isLt))
/-- Head `l`'s write strengths. -/
def blkB (x : Vec F BB .f32) (l : Fin G) : Vec F S1x64x1 .f32 :=
  View.ld x (Rect.unit (s := BB) ![l.val, 0, 0] S1x64x1.size (inbB l.val l.isLt))

/-- A load of a head's rows from a whole buffer. -/
theorem ldL_eq (M : Memref sig .tc .vmem BS .f32) (hM : M.IsWhole) (x : Vec F BS .f32) (l : Fin G) : ldL M hM x l = blkL x l := by
  unfold ldL blkL
  rw [View.readAt_eq_ld, hM.read_unread]
/-- A load of a head's betas from a whole buffer. -/
theorem ldB_eq (M : Memref sig .tc .vmem BB .f32) (hM : M.IsWhole) (x : Vec F BB .f32) (l : Fin G) : ldB M hM x l = blkB x l := by
  unfold ldB blkB
  rw [View.readAt_eq_ld, hM.read_unread]
/-- A load of a state from a whole buffer. -/
theorem ldS_eq (M : Memref sig .tc .vmem S128x128 .f32) (hM : M.IsWhole) (x : Vec F S128x128 .f32) : ldS M hM x = x := by
  unfold ldS
  rw [View.readAt_eq_ld, hM.read_unread]
  exact View.ld_unit_zero (by decide) _ _
/-- A load of a state just set to zero. -/
theorem ldZ_eq (M : Memref sig .tc .vmem S128x128 .f32) : ldZ M = (s0L : Vec F S128x128 .f32) :=
  View.readCov_unit_zero _ (by decide) _ _

variable (m : (ℓ : Loc nD τ sig) → Buf (Elt F) ℓ)

/-- The scratch states after a point, head by head. -/
def stV (p : Vec F S16x64x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32 × Vec F S128x128 .f32) : Fin G → Vec F S128x128 .f32 := ![p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1, p.2.2.2.2.2.2.2.2.2.2.2.2.2.2.2.2]

/-- A head's function of the blocks of a point and its entry state. -/
def atL {α : Type} (f : Vec F S1x64x128 .f32 → Vec F S1x64x128 .f32 → Vec F S1x64x128 .f32 → Vec F S1x64x128 .f32 →
    Vec F S1x64x1 .f32 → Vec F S128x128 .f32 → α) (c : Dev nD) (t : Fin cfg0.N) (l : Fin G) (s : Vec F S128x128 .f32) : α :=
  f (blkL (iblk m c 0 t) l) (blkL (iblk m c 1 t) l) (blkL (iblk m c 2 t) l) (blkL (iblk m c 3 t) l) (blkB (iblk m c 4 t) l) s

/-- The same with the blocks as the body loads them. -/
def atR {α : Type} (f : Vec F S1x64x128 .f32 → Vec F S1x64x128 .f32 → Vec F S1x64x128 .f32 → Vec F S1x64x128 .f32 →
    Vec F S1x64x1 .f32 → Vec F S128x128 .f32 → α) (c : Dev nD) (t : Fin cfg0.N) (l : Fin G) (s : Vec F S128x128 .f32) : α :=
  f (ldL (ms0_0 t) (hs0_0 t) (iblk m c 0 t) l) (ldL (ms0_1 t) (hs0_1 t) (iblk m c 1 t) l) (ldL (ms0_2 t) (hs0_2 t) (iblk m c 2 t) l)
    (ldL (ms0_3 t) (hs0_3 t) (iblk m c 3 t) l) (ldB (ms0_4 t) (hs0_4 t) (iblk m c 4 t) l) s

/-- The two agree: a load reads the block's rows. -/
theorem atR_eq {α : Type} (f : Vec F S1x64x128 .f32 → Vec F S1x64x128 .f32 → Vec F S1x64x128 .f32 → Vec F S1x64x128 .f32 →
    Vec F S1x64x1 .f32 → Vec F S128x128 .f32 → α) (c : Dev nD) (t : Fin cfg0.N) (l : Fin G) (s : Vec F S128x128 .f32) :
    atR m f c t l s = atL m f c t l s := by
  unfold atR atL
  simp only [ldL_eq, ldB_eq]

/-- The scratch memory of head `l`, as a whole memref. -/
def scM (l : Fin G) : Memref sig .tc .vmem S128x128 .f32 := (![scM0_0, scM0_1, scM0_2, scM0_3, scM0_4, scM0_5, scM0_6, scM0_7, scM0_8, scM0_9, scM0_10, scM0_11, scM0_12, scM0_13, scM0_14, scM0_15] : Fin G → Memref sig .tc .vmem S128x128 .f32) l

/-- At a first point of a sweep each head's state is its function of the zero state. -/
theorem state_A (c : Dev nD) (t : Fin cfg0.N) (h0 : t.val % 32 = 0) (l : Fin G) :
    stV (outsAt0 m c t.val t.isLt) l = atL m sL c t l s0L := by
  have key : stV (outsAt0 m c t.val t.isLt) l = atR m sL c t l (ldZ (scM l)) := by
    rw [outsAt0_A m c t h0]
    refine Eq.trans (b := View.read (Elt F) (scM l).view ((scM l).view.writes (Elt F) (scM l).view.junk
      [pieceS (atR m sL c t l (ldZ (scM l))), pieceS s0L])) ?_ (read_pieceS _ _ [pieceS s0L] _ rfl)
    fin_cases l <;> sl_kernel_rfl
  rw [key, ldZ_eq, atR_eq]

/-- At any other point each head's state is its function of the state the point before left. -/
theorem state_B (c : Dev nD) (t : Fin cfg0.N) (h0 : ¬t.val % 32 = 0) (l : Fin G) :
    stV (outsAt0 m c t.val t.isLt) l
      = atL m sL c t l (stV (outsAt0 m c (t.val - 1) (Nat.lt_of_le_of_lt (Nat.sub_le _ _) t.isLt)) l) := by
  have key : stV (outsAt0 m c t.val t.isLt) l = atR m sL c t l (ldS (scM l) (by unfold scM; fin_cases l <;> exact Memref.isWhole_whole _)
      (stV (outsAt0 m c (t.val - 1) (Nat.lt_of_le_of_lt (Nat.sub_le _ _) t.isLt)) l)) := by
    rw [outsAt0_B m c t h0]
    generalize outsAt0 m c (t.val - 1) (Nat.lt_of_le_of_lt (Nat.sub_le _ _) t.isLt) = p
    refine Eq.trans (b := View.read (Elt F) (scM l).view ((scM l).view.writes (Elt F) (scM l).view.junk
      [pieceS (atR m sL c t l (ldS (scM l) (by unfold scM; fin_cases l <;> exact Memref.isWhole_whole _) (stV p l)))])) ?_ (read_pieceS _ _ [] _ rfl)
    fin_cases l <;> sl_kernel_rfl
  rw [key, ldS_eq, atR_eq]

/-- A block of heads read at a head and a place in its part. -/
theorem canon_piecesO (f : Fin G → Vec F S1x64x128 .f32) : ∀ (n : ℕ) (h : n ≤ G) (l : Fin G) (_ : l.val < n) (a : Fin 64) (x : Fin 128),
    View.canon (piecesO f n h) (ix3 l a x) = f l (ix3 0 a x) := by
  intro n h l hl a x
  refine View.canon_apply_of_pieces (fun z : BS.Idx => f (z 0) (ix3 0 (z 1) (z 2))) _ ?_ _ ?_
  · clear hl
    induction n with
    | zero => intro p hp; exact absurd hp List.not_mem_nil
    | succ n ih =>
      intro p hp y
      rcases List.mem_cons.1 hp with rfl | hp
      · show f ⟨n, h⟩ y = f ⟨n + 1 * (y 0).val, _⟩ (ix3 0 ⟨0 + 1 * (y 1).val, _⟩ ⟨0 + 1 * (y 2).val, _⟩)
        have h0 : (y 0).val = 0 := by have : (y 0).val < 1 := (y 0).isLt; omega
        have e1 : (⟨n + 1 * (y 0).val, by rw [h0]; exact h⟩ : Fin G) = ⟨n, h⟩ := Fin.ext (show n + 1 * (y 0).val = n by omega)
        have e2 : (ix3 0 ⟨0 + 1 * (y 1).val, by have : (y 1).val < 64 := (y 1).isLt; show 0 + 1 * (y 1).val < 64; omega⟩
            ⟨0 + 1 * (y 2).val, by have : (y 2).val < 128 := (y 2).isLt; show 0 + 1 * (y 2).val < 128; omega⟩ : S1x64x128.Idx) = y := by
          funext d
          match d with
          | 0 => exact Fin.ext h0.symm
          | 1 => exact Fin.ext (show 0 + 1 * (y 1).val = (y 1).val by omega)
          | 2 => exact Fin.ext (show 0 + 1 * (y 2).val = (y 2).val by omega)
        exact (congrArg₂ f e1 e2).symm
      · exact ih _ p hp y
  · induction n with
    | zero => omega
    | succ n ih =>
      rcases Nat.lt_succ_iff_lt_or_eq.1 hl with hlt | he
      · obtain ⟨p, hp, hy⟩ := ih (Nat.le_of_succ_le h) hlt
        exact ⟨p, List.mem_cons_of_mem _ hp, hy⟩
      · refine ⟨_, List.mem_cons_self, (Rect.mem_set_unit (inb := inbL n h)).2 fun d => ?_⟩
        match d with
        | 0 => exact ⟨he.symm.le, show l.val < n + 1 by omega⟩
        | 1 => exact ⟨Nat.zero_le _, show a.val < 0 + 64 by omega⟩
        | 2 => exact ⟨Nat.zero_le _, show x.val < 0 + 128 by omega⟩

/-- What the output block reads after the heads' stores, at a head and a place. -/
theorem read_piecesO {sig : RefSig} {κ : Kind} {sp : Space} (v : View sig κ sp BS .f32) (f : Fin G → Vec F S1x64x128 .f32)
    (l : Fin G) (a : Fin 64) (x : Fin 128) :
    v.read (Elt F) (v.writes (Elt F) v.junk (piecesO f G le_rfl)) (ix3 l a x) = f l (ix3 0 a x) := by
  rw [View.read_writes_eq_canon]
  · exact canon_piecesO f G le_rfl l l.isLt a x
  · intro y
    have : ∀ (n : ℕ) (h : n ≤ G), (y 0).val < n → ∃ p ∈ piecesO f n h, y ∈ p.1.set := by
      intro n
      induction n with
      | zero => intro _ h; omega
      | succ n ih =>
        intro h hl
        rcases Nat.lt_succ_iff_lt_or_eq.1 hl with hlt | he
        · obtain ⟨p, hp, hy⟩ := ih (Nat.le_of_succ_le h) hlt
          exact ⟨p, List.mem_cons_of_mem _ hp, hy⟩
        · refine ⟨_, List.mem_cons_self, (Rect.mem_set_unit (inb := inbL n h)).2 fun d => ?_⟩
          match d with
          | 0 => exact ⟨he.symm.le, show (y 0).val < n + 1 by omega⟩
          | 1 => exact ⟨Nat.zero_le _, show (y 1).val < 0 + 64 by have : (y 1).val < 64 := (y 1).isLt; omega⟩
          | 2 => exact ⟨Nat.zero_le _, show (y 2).val < 0 + 128 by have : (y 2).val < 128 := (y 2).isLt; omega⟩
    exact this G le_rfl (y 0).isLt

/-- At a first point of a sweep each head's output is its function of the zero state. -/
theorem out_A (c : Dev nD) (t : Fin cfg0.N) (h0 : t.val % 32 = 0) (l : Fin G) (a : Fin 64) (x : Fin 128) :
    (outsAt0 m c t.val t.isLt).1 (ix3 l a x) = atL m oL c t l s0L (ix3 0 a x) := by
  have key : (outsAt0 m c t.val t.isLt).1 = View.read (Elt F) VO0_5 (VO0_5.writes (Elt F) VO0_5.junk
      (piecesO (fun l => atR m oL c t l (ldZ (scM l))) G le_rfl)) := by
    rw [outsAt0_A m c t h0]
    sl_kernel_rfl
  rw [key, read_piecesO]
  rw [ldZ_eq, atR_eq]

/-- At any other point each head's output is its function of the state the point before left. -/
theorem out_B (c : Dev nD) (t : Fin cfg0.N) (h0 : ¬t.val % 32 = 0) (l : Fin G) (a : Fin 64) (x : Fin 128) :
    (outsAt0 m c t.val t.isLt).1 (ix3 l a x)
      = atL m oL c t l (stV (outsAt0 m c (t.val - 1) (Nat.lt_of_le_of_lt (Nat.sub_le _ _) t.isLt)) l) (ix3 0 a x) := by
  have key : (outsAt0 m c t.val t.isLt).1 = View.read (Elt F) VO0_5 (VO0_5.writes (Elt F) VO0_5.junk
      (piecesO (fun l => atR m oL c t l (ldS (scM l) (by unfold scM; fin_cases l <;> exact Memref.isWhole_whole _)
        (stV (outsAt0 m c (t.val - 1) (Nat.lt_of_le_of_lt (Nat.sub_le _ _) t.isLt)) l))) G le_rfl)) := by
    rw [outsAt0_B m c t h0]
    generalize outsAt0 m c (t.val - 1) (Nat.lt_of_le_of_lt (Nat.sub_le _ _) t.isLt) = p
    sl_kernel_rfl
  rw [key, read_piecesO, ldS_eq, atR_eq]

end Cert.KernelIdeal.Lane

end
-- ==== Proof.ChunkMath.lean ====
/- The mathematics of one chunk over the real numbers: running the gated delta rule for 64 positions, one at a
   time, gives what the chunked form computes with a triangular system solved by repeated squaring. -/
module

public import Mathlib.Data.Real.Basic
public import Mathlib.Analysis.SpecialFunctions.Exp
public import Mathlib.LinearAlgebra.Matrix.NonsingularInverse

@[expose] public section

noncomputable section

namespace Cert.Delta

open Finset

/-- A state of one head: a 128 × 128 real matrix, key coordinate first. -/
abbrev State : Type := Fin 128 → Fin 128 → ℝ

/-- One position of the recurrence: decay the state, predict the value, correct by the error. -/
def step (S : State) (k g v : Fin 128 → ℝ) (b : ℝ) : State := fun a x =>
  S a x * Real.exp (g a) + (b * k a) * (v x - ∑ a', k a' * (S a' x * Real.exp (g a')))

/-- The state after `n` positions of the sequences, from `S`. -/
def iter (S : State) (k g v : ℕ → Fin 128 → ℝ) (b : ℕ → ℝ) : ℕ → State
  | 0 => S
  | n + 1 => step (iter S k g v b n) (k n) (g n) (v n) (b n)

/-- Running `m` positions and then `n` more is running `m + n`. -/
theorem iter_add (S : State) (k g v : ℕ → Fin 128 → ℝ) (b : ℕ → ℝ) (m n : ℕ) :
    iter S k g v b (m + n) = iter (iter S k g v b m) (fun i => k (m + i)) (fun i => g (m + i))
      (fun i => v (m + i)) (fun i => b (m + i)) n := by
  induction n with
  | zero => rfl
  | succ n ih => rw [← Nat.add_assoc]; simp only [iter]; rw [ih]

/-! ## The chunked form -/

/-- The inclusive lower triangle of ones. -/
def tril (i j : Fin 64) : ℝ := if j ≤ i then 1 else 0
/-- The strict lower triangle of ones. -/
def strict (i j : Fin 64) : ℝ := if j < i then 1 else 0

section Chunk

variable (S : State) (q k g v : Fin 64 → Fin 128 → ℝ) (b : Fin 64 → ℝ) (sc : ℝ)

/-- The summed log-decay up to and with position `i`. -/
def lg (i : Fin 64) (a : Fin 128) : ℝ := ∑ j, tril i j * g j a
/-- The keys, scaled by the write strength and by the decay so far. -/
def kd (i : Fin 64) (a : Fin 128) : ℝ := k i a * (b i * Real.exp (lg g i a))
/-- The queries, scaled by the decay so far. -/
def qd (i : Fin 64) (a : Fin 128) : ℝ := q i a * (Real.exp (lg g i a) * sc)
/-- The keys with the decay so far taken out. -/
def ki (i : Fin 64) (a : Fin 128) : ℝ := k i a * Real.exp (0 - lg g i a)
/-- The chunk's strictly lower triangular coupling. -/
def nm : Matrix (Fin 64) (Fin 64) ℝ := fun i j => (0 - ∑ a, kd k g b i a * ki k g j a) * strict i j

/-- The squarings `N`, `N²`, `N⁴`, …. -/
def sq (N : Matrix (Fin 64) (Fin 64) ℝ) : ℕ → Matrix (Fin 64) (Fin 64) ℝ
  | 0 => N
  | n + 1 => sq N n * sq N n
/-- The products `(1 + N)(1 + N²)(1 + N⁴)…`. -/
def pr (N : Matrix (Fin 64) (Fin 64) ℝ) : ℕ → Matrix (Fin 64) (Fin 64) ℝ
  | 0 => 1 + N
  | n + 1 => pr N n + pr N n * sq N (n + 1)

/-- Squaring `n` times is the power `2 ^ n`. -/
theorem sq_eq_pow (N : Matrix (Fin 64) (Fin 64) ℝ) (n : ℕ) : sq N n = N ^ 2 ^ n := by
  induction n with
  | zero => simp [sq]
  | succ n ih => rw [sq, ih, ← pow_add, pow_succ]; congr 1; omega

/-- The product telescopes: `(1 − N)(1 + N)(1 + N²)… = 1 − N^(2^(n+1))`. -/
theorem one_sub_mul_pr (N : Matrix (Fin 64) (Fin 64) ℝ) (n : ℕ) : (1 - N) * pr N n = 1 - N ^ 2 ^ (n + 1) := by
  induction n with
  | zero => rw [pr, mul_add, sub_mul, sub_mul, mul_one, one_mul, mul_one, show 2 ^ (0 + 1) = 2 from rfl, pow_two]; abel
  | succ n ih =>
    rw [pr, mul_add, ← mul_assoc, ih, sq_eq_pow, sub_mul, one_mul, ← pow_add,
      show 2 ^ (n + 1) + 2 ^ (n + 1) = 2 ^ (n + 1 + 1) by rw [pow_succ 2 (n + 1)]; omega]
    abel

/-- A power of a strictly lower triangular matrix vanishes ever further below the diagonal. -/
theorem pow_eq_zero_of_lt {N : Matrix (Fin 64) (Fin 64) ℝ} (h : ∀ i j, i ≤ j → N i j = 0) (n : ℕ) (i j : Fin 64)
    (hij : i.val < j.val + n) : (N ^ n) i j = 0 := by
  induction n generalizing i j with
  | zero =>
    rw [pow_zero, Matrix.one_apply_ne]
    intro e; subst e; omega
  | succ n ih =>
    rw [pow_succ, Matrix.mul_apply]
    refine Finset.sum_eq_zero fun l _ => ?_
    by_cases hl : l ≤ j
    · rw [h l j hl, mul_zero]
    · rw [ih i l (by have := Fin.lt_def.mp (not_le.mp hl); omega), zero_mul]

/-- The 64th power of a strictly lower triangular matrix is zero. -/
theorem pow_64 {N : Matrix (Fin 64) (Fin 64) ℝ} (h : ∀ i j, i ≤ j → N i j = 0) : N ^ 64 = 0 := by
  ext i j
  exact pow_eq_zero_of_lt h 64 i j (by omega)

/-- Five squarings solve the triangular system: `P = 1 + N P`. -/
theorem pr_five {N : Matrix (Fin 64) (Fin 64) ℝ} (h : ∀ i j, i ≤ j → N i j = 0) : pr N 5 = 1 + N * pr N 5 := by
  have e := one_sub_mul_pr N 5
  rw [show 2 ^ (5 + 1) = 64 from rfl, pow_64 h, sub_zero, sub_mul, one_mul] at e
  rw [← e]; abel

/-- The chunk's system matrix is zero on and above the diagonal. -/
theorem nm_upper (i j : Fin 64) (h : i ≤ j) : nm k g b i j = 0 := by
  unfold nm strict
  rw [if_neg (not_lt.mpr h), mul_zero]

/-- The right-hand side of the triangular system. -/
def rhs (i : Fin 64) (x : Fin 128) : ℝ := b i * v i x - ∑ a, kd k g b i a * S a x
/-- The corrections: the system's solution. -/
def uu (i : Fin 64) (x : Fin 128) : ℝ := ∑ j, pr (nm k g b) 5 i j * rhs S k g v b j x
/-- The chunk's outputs. -/
def co (i : Fin 64) (x : Fin 128) : ℝ :=
  (∑ a, qd q g sc i a * S a x) + ∑ j, ((∑ a, qd q g sc i a * ki k g j a) * tril i j) * uu S k g v b j x
/-- The state after the chunk. -/
def cs (a x : Fin 128) : ℝ := Real.exp (lg g 63 a) * (S a x + ∑ j, ki k g j a * uu S k g v b j x)

/-- The corrections solve the system. -/
theorem uu_eq (i : Fin 64) (x : Fin 128) :
    uu S k g v b i x = rhs S k g v b i x + ∑ j, nm k g b i j * uu S k g v b j x := by
  have e : ∀ w : Fin 64 → ℝ, (pr (nm k g b) 5).mulVec w = w + (nm k g b).mulVec ((pr (nm k g b) 5).mulVec w) := fun w => by
    conv_lhs => rw [pr_five (nm_upper k g b)]
    rw [Matrix.add_mulVec, Matrix.one_mulVec, Matrix.mulVec_mulVec]
  exact congrFun (e fun j => rhs S k g v b j x) i

/-- The sum over the positions strictly before `n`. -/
def psum (f : Fin 64 → ℝ) (n : ℕ) : ℝ := ∑ j : Fin 64, if j.val < n then f j else 0

/-- A partial sum with one more term. -/
theorem psum_succ (f : Fin 64 → ℝ) (i : Fin 64) : psum f (i.val + 1) = psum f i.val + f i := by
  unfold psum
  rw [show f i = ∑ j : Fin 64, if j = i then f j else 0 by simp, ← Finset.sum_add_distrib]
  refine Finset.sum_congr rfl fun j _ => ?_
  rcases lt_trichotomy j i with h | h | h
  · have := Fin.lt_def.mp h
    rw [if_pos (by omega), if_pos this, if_neg (ne_of_lt h), add_zero]
  · subst h; simp
  · have := Fin.lt_def.mp h
    rw [if_neg (by omega), if_neg (by omega), if_neg (ne_of_gt h), add_zero]

/-- The running sum of the decays, through a row, is a partial sum. -/
theorem lg_eq_psum (i : Fin 64) (a : Fin 128) : lg g i a = psum (fun j => g j a) (i.val + 1) := by
  unfold lg psum tril
  refine Finset.sum_congr rfl fun j _ => ?_
  have : j ≤ i ↔ j.val < i.val + 1 := by rw [Fin.le_def]; omega
  simp only [this, ite_mul, one_mul, zero_mul]

/-- The strict triangle's coupling, as the part of a sum before position `i`. -/
theorem sum_strict (f : Fin 64 → ℝ) (i : Fin 64) : ∑ j, f j * strict i j = psum f i.val := by
  unfold psum strict
  refine Finset.sum_congr rfl fun j _ => ?_
  simp only [Fin.lt_def, mul_ite, mul_one, mul_zero]

/-- A sum masked by the lower triangle with its diagonal is a partial sum through the row. -/
theorem sum_tril (f : Fin 64 → ℝ) (i : Fin 64) : ∑ j, f j * tril i j = psum f (i.val + 1) := by
  unfold psum tril
  refine Finset.sum_congr rfl fun j _ => ?_
  have : j ≤ i ↔ j.val < i.val + 1 := by rw [Fin.le_def]; omega
  simp only [this, mul_ite, mul_one, mul_zero]

/-- A factor comes out of a partial sum. -/
theorem psum_mul (c : ℝ) (f : Fin 64 → ℝ) (n : ℕ) : psum (fun j => c * f j) n = c * psum f n := by
  unfold psum
  rw [Finset.mul_sum]
  exact Finset.sum_congr rfl fun j _ => by split_ifs <;> simp

/-- A partial sum of sums is the sum of the partial sums. -/
theorem psum_sum (f : Fin 128 → Fin 64 → ℝ) (n : ℕ) : psum (fun j => ∑ a, f a j) n = ∑ a, psum (f a) n := by
  unfold psum
  rw [Finset.sum_comm]
  exact Finset.sum_congr rfl fun j _ => by split_ifs <;> simp

end Chunk

/-- The state after the first `n` positions of the chunk in closed form: the decay so far times the entry state plus the
    corrections so far. -/
theorem iter_eq (S : State) (k g v : ℕ → Fin 128 → ℝ) (b : ℕ → ℝ) (n : ℕ) (hn : n ≤ 64) (a x : Fin 128) :
    iter S k g v b n a x
      = Real.exp (psum (fun j => g j a) n) * (S a x + psum (fun j => ki (fun i => k i) (fun i => g i) j a
          * uu S (fun i => k i) (fun i => g i) (fun i => v i) (fun i => b i) j x) n) := by
  induction n generalizing a x with
  | zero => simp [iter, psum]
  | succ n ih =>
    have hn' : n < 64 := by omega
    set i : Fin 64 := ⟨n, hn'⟩ with hi
    have hK : (fun i : Fin 64 => k i) i = k n := rfl
    set K : Fin 64 → Fin 128 → ℝ := fun i => k i
    set G : Fin 64 → Fin 128 → ℝ := fun i => g i
    set W : Fin 64 → Fin 128 → ℝ := fun i => v i
    set B : Fin 64 → ℝ := fun i => b i
    -- the decayed state
    have dec : ∀ a', iter S k g v b n a' x * Real.exp (g n a')
        = Real.exp (lg G i a') * (S a' x + psum (fun j => ki K G j a' * uu S K G W B j x) n) := fun a' => by
      rw [ih (by omega), lg_eq_psum, psum_succ]
      rw [Real.exp_add]
      ring
    -- the correction of this position
    have corr : b n * (v n x - ∑ a', k n a' * (iter S k g v b n a' x * Real.exp (g n a'))) = uu S K G W B i x := by
      rw [uu_eq]
      have e1 : ∑ j, nm K G B i j * uu S K G W B j x
          = - psum (fun j => (∑ a', kd K G B i a' * ki K G j a') * uu S K G W B j x) n := by
        rw [show n = i.val from rfl, ← sum_strict, ← Finset.sum_neg_distrib]
        refine Finset.sum_congr rfl fun j _ => ?_
        unfold nm; ring
      rw [e1]
      have e2 : psum (fun j => (∑ a', kd K G B i a' * ki K G j a') * uu S K G W B j x) n
          = ∑ a', kd K G B i a' * psum (fun j => ki K G j a' * uu S K G W B j x) n := by
        simp only [Finset.sum_mul]
        rw [psum_sum]
        refine Finset.sum_congr rfl fun a' _ => ?_
        rw [← psum_mul]
        congr 1; funext j; ring
      rw [e2]
      simp only [dec]
      unfold rhs
      have e3 : b n * ∑ a', k n a' * (Real.exp (lg G i a') * (S a' x + psum (fun j => ki K G j a' * uu S K G W B j x) n))
          = (∑ a', kd K G B i a' * S a' x) + ∑ a', kd K G B i a' * psum (fun j => ki K G j a' * uu S K G W B j x) n := by
        rw [Finset.mul_sum, ← Finset.sum_add_distrib]
        refine Finset.sum_congr rfl fun a' _ => ?_
        unfold kd
        rw [show K i a' = k n a' from rfl, show B i = b n from rfl]
        ring
      rw [mul_sub, e3, show B i = b n from rfl, show W i x = v n x from rfl]
      ring
    have hps : psum (fun j => ki K G j a * uu S K G W B j x) (n + 1)
        = psum (fun j => ki K G j a * uu S K G W B j x) n + ki K G i a * uu S K G W B i x :=
      psum_succ (fun j => ki K G j a * uu S K G W B j x) i
    have hlg : psum (fun j : Fin 64 => g j a) (n + 1) = lg G i a := (lg_eq_psum G i a).symm
    have hki : Real.exp (lg G i a) * ki K G i a = k n a := by
      unfold ki
      rw [mul_left_comm, ← Real.exp_add, show K i a = k n a from rfl]
      simp
    simp only [iter, step]
    rw [dec a, hps, hlg]
    calc _ = Real.exp (lg G i a) * (S a x + psum (fun j => ki K G j a * uu S K G W B j x) n)
          + k n a * (b n * (v n x - ∑ a', k n a' * (iter S k g v b n a' x * Real.exp (g n a')))) := by ring
      _ = _ := by rw [corr, ← hki]; ring

/-- The chunk's outputs are the recurrence's: each position's query against the state after that position. -/
theorem co_eq (S : State) (q k g v : ℕ → Fin 128 → ℝ) (b : ℕ → ℝ) (sc : ℝ) (i : Fin 64) (x : Fin 128) :
    co S (fun i => q i) (fun i => k i) (fun i => g i) (fun i => v i) (fun i => b i) sc i x
      = ∑ a, (q i a * sc) * iter S k g v b (i.val + 1) a x := by
  unfold co
  have e1 : ∀ (f : Fin 64 → ℝ) (w : Fin 64 → ℝ), ∑ j, (f j * tril i j) * w j = psum (fun j => f j * w j) (i.val + 1) :=
    fun f w => by
      rw [← sum_tril]
      exact Finset.sum_congr rfl fun j _ => by ring
  rw [e1]
  simp only [Finset.sum_mul]
  rw [psum_sum, ← Finset.sum_add_distrib]
  refine Finset.sum_congr rfl fun a _ => ?_
  rw [iter_eq S k g v b (i.val + 1) (by omega), ← lg_eq_psum (fun i : Fin 64 => g i) i a]
  simp only [mul_assoc]
  rw [psum_mul]
  unfold qd
  ring

/-- The chunk's exit state is the recurrence's after 64 positions. -/
theorem cs_eq (S : State) (k g v : ℕ → Fin 128 → ℝ) (b : ℕ → ℝ) :
    cs S (fun i => k i) (fun i => g i) (fun i => v i) (fun i => b i) = iter S k g v b 64 := by
  funext a x
  have hall : ∀ f : Fin 64 → ℝ, psum f 64 = ∑ j, f j := fun f => by
    unfold psum
    exact Finset.sum_congr rfl fun j _ => if_pos j.isLt
  rw [iter_eq S k g v b 64 le_rfl, hall (fun j => ki _ _ j a * _), cs, lg_eq_psum]
  rfl

end Cert.Delta

end
-- ==== Proof.LaneValue.lean ====
/- What one head's chunk comes to at the ideal values, on finite blocks: the chunk's mathematics over the reals. -/
module

public import proofs.«01_k».proof.Proof.LaneFn
public import proofs.«01_k».proof.Proof.ChunkMath
public import Idealize.ShloMosaic.Lib.MatmulPlain
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

namespace Cert.KernelIdeal.Lane

open Idealize.ShloMosaic Idealize.ShloMosaic.TcCoe Idealize.ShloMosaic.ValueIdx
open Cert.KernelIdeal Cert.KernelIdeal.Gen
open scoped BigOperators

/-- A finite sum of finite extended reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real matrix as a vector of the ideal values. -/
def cM {m n : ℕ} (f : Fin m → Fin n → ℝ) : FVec Ideal ⟨2, ![m, n]⟩ .f32 := fun j => ((f (j 0) (j 1) : ℝ) : EReal)
/-- A real matrix as a block with a leading axis of extent one. -/
def cB {m n : ℕ} (f : Fin m → Fin n → ℝ) : FVec Ideal ⟨3, ![1, m, n]⟩ .f32 := fun j => ((f (j 1) (j 2) : ℝ) : EReal)

variable {m n p : ℕ}

/-- A matrix with real elements is the embedded real matrix. -/
theorem cM_ext {x : FVec Ideal ⟨2, ![m, n]⟩ .f32} {f : Fin m → Fin n → ℝ} (h : ∀ i j, x (ix2 i j) = ((f i j : ℝ) : EReal)) : x = cM f := by
  funext y
  rw [eq_ix2 y]
  exact h _ _

/-- Over the extended reals the high part is the whole value. -/
theorem hi_eq {s : Shape} (x : FVec Ideal s .f32) : hi x = x := rfl
/-- The low part of a real matrix is zero. -/
theorem lo_cM (f : Fin m → Fin n → ℝ) : lo (cM f) = cM (fun _ _ => 0) := by
  funext y
  show ((f (y 0) (y 1) : ℝ) : EReal) - ((f (y 0) (y 1) : ℝ) : EReal) = ((0 : ℝ) : EReal)
  rw [← EReal.coe_sub, sub_self]
/-- Products of real matrices, element by element. -/
theorem mulf_cM (f g : Fin m → Fin n → ℝ) : mulf (cM f) (cM g) = cM (fun i j => f i j * g i j) := by
  funext y; exact (EReal.coe_mul _ _).symm
/-- Sums of real matrices. -/
theorem addf_cM (f g : Fin m → Fin n → ℝ) : addf (cM f) (cM g) = cM (fun i j => f i j + g i j) := by
  funext y; exact (EReal.coe_add _ _).symm
/-- Differences of real matrices. -/
theorem subf_cM (f g : Fin m → Fin n → ℝ) : subf (cM f) (cM g) = cM (fun i j => f i j - g i j) := by
  funext y; exact (EReal.coe_sub _ _).symm
/-- The exponential of a real matrix, element by element. -/
theorem exp_cM (f : Fin m → Fin n → ℝ) : exp (cM f) = cM (fun i j => Real.exp (f i j)) := rfl
/-- The zero literal spread over a matrix. -/
theorem zero_cM : (broadcast ⟨2, ![m, n]⟩ (Scalar.ofBits (F := Ideal) .f32 0x00000000#32)) = cM (m := m) (n := n) (fun _ _ => 0) := by
  funext y
  show Ideal.ofBits .f32 0x00000000#32 = ((0 : ℝ) : EReal)
  simp [Ideal.ofBits, Ideal.ieee]

/-- The scale the queries carry, 2^(−7/2) rounded to a float. -/
def sc : ℝ := (Ideal.ofBits .f32 0x3DB504F3#32).toReal
/-- The scale literal is the real number `sc`. -/
theorem sc_coe : Ideal.ofBits .f32 0x3DB504F3#32 = ((sc : ℝ) : EReal) := by
  unfold sc
  rw [EReal.coe_toReal] <;> simp [Ideal.ofBits, Ideal.ieee, -EReal.coe_mul]
/-- The scale literal spread over a matrix. -/
theorem sc_cM : (broadcast ⟨2, ![m, n]⟩ (Scalar.ofBits (F := Ideal) .f32 0x3DB504F3#32)) = cM (m := m) (n := n) (fun _ _ => sc) := by
  funext y
  exact sc_coe

/-! ## The products -/

/-- What a product of finite matrices is, at dimension numbers `d`: the real matrices' product by `D`. -/
def Mul {a b a' b' : ℕ} (d : DotDims ⟨2, ![a, b]⟩ ⟨2, ![a', b']⟩ ⟨2, ![m, n]⟩)
    (D : (Fin a → Fin b → ℝ) → (Fin a' → Fin b' → ℝ) → Fin m → Fin n → ℝ) : Prop :=
  ∀ A B, matmul d none (cM A) (cM B) (constant ⟨2, ![m, n]⟩ .f32 0x00000000#32) = cM (D A B)

/-- In three passes the product of finite matrices is the product: the low parts are zero. -/
theorem d3_cM {a b a' b' : ℕ} {d : DotDims ⟨2, ![a, b]⟩ ⟨2, ![a', b']⟩ ⟨2, ![m, n]⟩}
    {D : (Fin a → Fin b → ℝ) → (Fin a' → Fin b' → ℝ) → Fin m → Fin n → ℝ} (h : Mul d D)
    (hl : ∀ A i j, D A (fun _ _ => 0) i j = 0) (hr : ∀ B i j, D (fun _ _ => 0) B i j = 0)
    (A : Fin a → Fin b → ℝ) (B : Fin a' → Fin b' → ℝ) : d3 d (cM A) (cM B) = cM (D A B) := by
  unfold d3
  rw [lo_cM, lo_cM, hi_eq, hi_eq, h, h, h, addf_cM, addf_cM]
  congr 1
  funext i j
  rw [hl, hr, add_zero, add_zero]

/-- A zero accumulator is zero everywhere. -/
theorem acc_zero (y : (⟨2, ![m, n]⟩ : Shape).Idx) : constant (F := Ideal) ⟨2, ![m, n]⟩ .f32 0x00000000#32 y = 0 := by
  show Ideal.ofBits .f32 0x00000000#32 = 0
  simp [Ideal.ofBits, Ideal.ieee]

/-- The plain contraction multiplies rows by columns. -/
theorem mul_plain : Mul (DotDims.plain m p n) (fun A B i j => ∑ k, A i k * B k j) := fun A B => by
  refine cM_ext fun i j => ?_
  refine (Ideal.matmul_plain_apply none (cM A) (cM B) _ i j).trans ?_
  rw [acc_zero, zero_add, coe_sum]
  exact Finset.sum_congr rfl fun k _ => (EReal.coe_mul _ _).symm

/-- The contraction of both second axes multiplies rows by rows. -/
theorem mul_trans : Mul (DotDims.transposedRhs m p n) (fun A B i j => ∑ k, A i k * B j k) := fun A B => by
  refine cM_ext fun i j => ?_
  refine (Ideal.matmul_transposedRhs_apply none (cM A) (cM B) _ i j).trans ?_
  rw [acc_zero, zero_add, coe_sum]
  exact Finset.sum_congr rfl fun k _ => (EReal.coe_mul _ _).symm

/-- The product that contracts the rows of both. -/
theorem mul_rows : Mul dot_S64x128_S64x128_S128x128_0_0_1_1_n_n (fun A B i j => ∑ k, A k i * B k j) := fun A B => by
  refine cM_ext fun i j => ?_
  refine (Ideal.matmul_apply _ none (cM A) (cM B) _ _).trans ?_
  rw [acc_zero, zero_add, coe_sum,
    ← Equiv.sum_comp (contrEquiv1 dot_S64x128_S64x128_S128x128_0_0_1_1_n_n 64 rfl rfl).symm]
  refine Finset.sum_congr rfl fun k _ => ?_
  have hk := contrEquiv1_symm_val dot_S64x128_S64x128_S128x128_0_0_1_1_n_n 64 rfl rfl k
  rw [EReal.coe_mul]
  have el : dot_S64x128_S64x128_S128x128_0_0_1_1_n_n.lhsIdx (ix2 i j)
      ((contrEquiv1 dot_S64x128_S64x128_S128x128_0_0_1_1_n_n 64 rfl rfl).symm k) = ix2 k i := by
    funext a; apply Fin.ext
    match a with
    | ⟨0, _⟩ => exact hk
    | ⟨1, _⟩ => rfl
  have er : dot_S64x128_S64x128_S128x128_0_0_1_1_n_n.rhsIdx (ix2 i j)
      ((contrEquiv1 dot_S64x128_S64x128_S128x128_0_0_1_1_n_n 64 rfl rfl).symm k) = ix2 k j := by
    funext a; apply Fin.ext
    match a with
    | ⟨0, _⟩ => exact hk
    | ⟨1, _⟩ => rfl
  rw [el, er]
  rfl

/-- The three-part product of the stacked rows with the decayed keys. -/
theorem d3_a2 (A : Fin 128 → Fin 128 → ℝ) (B : Fin 64 → Fin 128 → ℝ) :
    d3 dot_S128x128_S64x128_S128x64_1_1_0_0_n_n (cM A) (cM B) = cM (fun i j => ∑ k, A i k * B j k) :=
  d3_cM (d := dot_S128x128_S64x128_S128x64_1_1_0_0_n_n) (mul_trans (m := 128) (p := 128) (n := 64)) (by simp) (by simp) A B
/-- The three-part product of the stacked rows with the state. -/
theorem d3_sv (A B : Fin 128 → Fin 128 → ℝ) :
    d3 dot_S128x128_S128x128_S128x128_1_0_0_1_n_n (cM A) (cM B) = cM (fun i j => ∑ k, A i k * B k j) :=
  d3_cM (d := dot_S128x128_S128x128_S128x128_1_0_0_1_n_n) (mul_plain (m := 128) (p := 128) (n := 128)) (by simp) (by simp) A B
/-- The three-part product of two square matrices. -/
theorem d3_sq (A B : Matrix (Fin 64) (Fin 64) ℝ) : d3s (cM A) (cM B) = cM (A * B) :=
  (d3_cM (d := dot_S64x64_S64x64_S64x64_1_0_0_1_n_n) (mul_plain (m := 64) (p := 64) (n := 64)) (by simp) (by simp) A B).trans
    (congrArg cM (by funext i j; exact (Matrix.mul_apply).symm))
/-- The three-part product of a square matrix with the values. -/
theorem d3_u (A : Fin 64 → Fin 64 → ℝ) (B : Fin 64 → Fin 128 → ℝ) :
    d3 dot_S64x64_S64x128_S64x128_1_0_0_1_n_n (cM A) (cM B) = cM (fun i j => ∑ k, A i k * B k j) :=
  d3_cM (d := dot_S64x64_S64x128_S64x128_1_0_0_1_n_n) (mul_plain (m := 64) (p := 64) (n := 128)) (by simp) (by simp) A B
/-- The three-part product that updates the state. -/
theorem d3_st (A B : Fin 64 → Fin 128 → ℝ) :
    d3 dot_S64x128_S64x128_S128x128_0_0_1_1_n_n (cM A) (cM B) = cM (fun i j => ∑ k, A k i * B k j) :=
  d3_cM mul_rows (by simp) (by simp) A B

/-! ## The triangles -/

/-- A comparison of two positions, as words. -/
theorem tri_word (c : CmpIPredicate) (P : Fin 64 → Fin 64 → Prop) [∀ i j, Decidable (P i j)]
    (h : ∀ i j : Fin 64, IntOp.cmpi c (BitVec.ofNat 32 (0 * 64 + j.val)) (BitVec.ofNat 32 (0 * 64 + i.val)) = BitVec.ofBool (decide (P i j))) :
    (tri (F := Ideal) c) = cM (fun i j => if P i j then (1 : ℝ) else 0) := by
  refine cM_ext fun i j => ?_
  show (((BitVec.setWidth 32 (IntOp.cmpi c (BitVec.ofNat 32 (0 * 64 + j.val)) (BitVec.ofNat 32 (0 * 64 + i.val)))).toInt : ℝ) : EReal) = _
  rw [h i j]
  by_cases hp : P i j
  · rw [if_pos hp, decide_eq_true hp]; simp
  · rw [if_neg hp, decide_eq_false hp]; simp

/-- The mask of the lower triangle with its diagonal. -/
theorem tri_sle : tri (F := Ideal) .sle = cM Delta.tril :=
  tri_word .sle (fun i j => j ≤ i) (by decide +kernel)
/-- The mask of the strict lower triangle. -/
theorem tri_slt : tri (F := Ideal) .slt = cM Delta.strict :=
  tri_word .slt (fun i j => j < i) (by decide +kernel)
/-- The mask of the diagonal is the identity. -/
theorem tri_eq : tri (F := Ideal) .eq = cM (1 : Matrix (Fin 64) (Fin 64) ℝ) := by
  refine (tri_word .eq (fun i j => i = j) (by decide +kernel)).trans (congrArg cM ?_)
  funext i j
  exact (Matrix.one_apply).symm

/-! ## The layouts -/

/-- A head's block of vectors as a matrix. -/
theorem sq3_cB (f : Fin 64 → Fin 128 → ℝ) : sq3 (cB f) = cM f :=
  cM_ext fun i j => shapeCast_1ab_ab_apply _ _ i j
/-- A head's block of betas as a column. -/
theorem sqb_cB (f : Fin 64 → Fin 1 → ℝ) : sqb (cB f) = cM f :=
  cM_ext fun i j => shapeCast_1ab_ab_apply _ _ i j
/-- A column spread over the columns of a matrix. -/
theorem col_cM {c d : ℕ} (f : Fin c → Fin 1 → ℝ) (h : (⟨2, ![c, 1]⟩ : Shape).Broadcasts ⟨2, ![c, d]⟩) (hc : c ≠ 1) :
    broadcastTo ⟨2, ![c, d]⟩ (cM f) h = cM (fun i _ => f i 0) :=
  cM_ext fun i j => broadcastTo_apply _ h (ix2 i j) (ix2 i (0 : Fin 1)) fun ax => by
    match ax with
    | ⟨0, _⟩ => show i.val = if c = 1 then 0 else i.val; rw [if_neg hc]
    | ⟨1, _⟩ => rfl
/-- Rows cut out of a matrix. -/
theorem cut_cM {r c k : ℕ} (o : ℕ) (f : Fin r → Fin c → ℝ) (h : (⟨2, ![r, c]⟩ : Shape).Slices ![o, 0] ⟨2, ![k, c]⟩) (ho : o + k ≤ r) :
    extractStridedSlice ⟨2, ![k, c]⟩ ![o, 0] (cM f) h = cM (fun (i : Fin k) j => f ⟨o + i.val, by omega⟩ j) :=
  cM_ext fun i j => slice2_axis0_apply o (cM f) h i j ⟨o + i.val, by omega⟩ rfl

/-- Two blocks of 64 rows, the first above the second. -/
def stack (f g : Fin 64 → Fin 128 → ℝ) : Fin 128 → Fin 128 → ℝ := fun i j =>
  if h : i.val < 64 then f ⟨i.val, h⟩ j else g ⟨i.val - 64, by omega⟩ j
/-- Two matrices stacked. -/
theorem stack_cM (f g : Fin 64 → Fin 128 → ℝ) :
    concatenate S128x128 0 [⟨S64x128, (cM f : FVec Ideal S64x128 .f32)⟩, ⟨S64x128, (cM g : FVec Ideal S64x128 .f32)⟩]
      concatenates_S64x128_S64x128_S128x128_d0 = cM (stack f g) :=
  cM_ext fun i j => by
    unfold stack
    by_cases h : i.val < 64
    · rw [dif_pos h]
      exact concatenate_pair_apply_left (0 : Fin 2) (cM f) (cM g) _ (ix2 i j) rfl (ix2 ⟨i.val, h⟩ j) fun b => by
        match b with
        | ⟨0, _⟩ => rfl
        | ⟨1, _⟩ => rfl
    · rw [dif_neg h]
      exact concatenate_pair_apply_right (0 : Fin 2) (cM f) (cM g) _ (ix2 i j) rfl rfl (ix2 ⟨i.val - 64, by omega⟩ j) (fun b hb => by
        match b with
        | ⟨0, _⟩ => exact absurd rfl hb
        | ⟨1, _⟩ => rfl) (show i.val - 64 + 64 = i.val by omega)
/-- The top half of a stack. -/
theorem stack_top (f g : Fin 64 → Fin 128 → ℝ) (i : Fin 64) (j : Fin 128) (h : 0 + i.val < 128) : stack f g ⟨0 + i.val, h⟩ j = f i j := by
  unfold stack
  rw [dif_pos (show 0 + i.val < 64 by omega)]
  exact congrArg (f · j) (Fin.ext (Nat.zero_add _))
/-- The bottom half of a stack. -/
theorem stack_bottom (f g : Fin 64 → Fin 128 → ℝ) (i : Fin 64) (j : Fin 128) (h : 64 + i.val < 128) : stack f g ⟨64 + i.val, h⟩ j = g i j := by
  unfold stack
  rw [dif_neg (show ¬64 + i.val < 64 by omega)]
  exact congrArg (g · j) (Fin.ext (Nat.add_sub_cancel_left _ _))

/-! ## The chunk -/

section Chunk

variable (S : Delta.State) (q k g v : Fin 64 → Fin 128 → ℝ) (b : Fin 64 → ℝ)

/-- The write strengths as a block. -/
abbrev cb (b : Fin 64 → ℝ) : FVec Ideal S1x64x1 .f32 := cB (fun i (_ : Fin 1) => b i)

/-- The running sums of the decays. -/
theorem lgV_eq : lgV (F := Ideal) (cB g) = cM (Delta.lg g) := by
  unfold lgV
  rw [sq3_cB, lo_cM, hi_eq, tri_sle]
  rw [show matmul dot_S64x64_S64x128_S64x128_1_0_0_1_n_n none (cM Delta.tril) (cM g) (constant S64x128 .f32 0x00000000#32) = _ from
      mul_plain (m := 64) (p := 64) (n := 128) Delta.tril g,
    show matmul dot_S64x64_S64x128_S64x128_1_0_0_1_n_n none (cM Delta.tril) (cM fun _ _ => 0) (constant S64x128 .f32 0x00000000#32) = _ from
      mul_plain (m := 64) (p := 64) (n := 128) Delta.tril (fun _ _ => 0), addf_cM]
  congr 1
  funext i j
  simp [Delta.lg]
/-- Their exponentials. -/
theorem lamV_eq : lamV (F := Ideal) (cB g) = cM (fun i a => Real.exp (Delta.lg g i a)) := by
  unfold lamV; rw [lgV_eq, exp_cM]
/-- The decayed keys over the decayed queries. -/
theorem kqV_eq : kqV (F := Ideal) (cB q) (cB k) (cB g) (cb b) = cM (stack (Delta.kd k g b) (Delta.qd q g sc)) := by
  unfold kqV
  rw [lamV_eq, sq3_cB, sq3_cB, sqb_cB, col_cM _ _ (by decide), sc_cM, mulf_cM, mulf_cM, mulf_cM, mulf_cM]
  exact stack_cM _ _
/-- The keys with the decay undone. -/
theorem kiV_eq : kiV (F := Ideal) (cB k) (cB g) = cM (Delta.ki k g) := by
  unfold kiV
  rw [lgV_eq, sq3_cB, zero_cM, subf_cM, exp_cM, mulf_cM]
  rfl
/-- The stacked rows against the keys. -/
theorem a2V_eq : a2V (F := Ideal) (cB q) (cB k) (cB g) (cb b)
    = cM (fun i j => ∑ a, stack (Delta.kd k g b) (Delta.qd q g sc) i a * Delta.ki k g j a) := by
  unfold a2V; rw [kqV_eq, kiV_eq, d3_a2]
/-- The stacked rows against the state. -/
theorem svV_eq : svV (F := Ideal) (cB q) (cB k) (cB g) (cb b) (cM S)
    = cM (fun i x => ∑ a, stack (Delta.kd k g b) (Delta.qd q g sc) i a * S a x) := by
  unfold svV; rw [kqV_eq, d3_sv]
/-- The chunk's system matrix. -/
theorem nV_eq : nV (F := Ideal) (a2V (cB q) (cB k) (cB g) (cb b)) = cM (Delta.nm k g b) := by
  unfold nV
  rw [a2V_eq, cut_cM 0 _ _ (by decide), zero_cM, tri_slt, subf_cM, mulf_cM]
  congr 1
  funext i j
  simp only [stack_top]
  rfl
/-- One more squaring. -/
theorem sqS_eq (N : Matrix (Fin 64) (Fin 64) ℝ) (c : ℕ) : sqS (F := Ideal) (cM (Delta.sq N c)) = cM (Delta.sq N (c + 1)) :=
  d3_sq _ _
/-- One more factor of the product of squarings. -/
theorem prS_eq (N : Matrix (Fin 64) (Fin 64) ℝ) (c : ℕ) :
    prS (F := Ideal) (cM (Delta.pr N c)) (cM (Delta.sq N (c + 1))) = cM (Delta.pr N (c + 1)) := by
  unfold prS; rw [d3_sq]; exact addf_cM (m := 64) (n := 64) (Delta.pr N c) (Delta.pr N c * Delta.sq N (c + 1))
/-- The product after five squarings. -/
theorem pV_eq (N : Matrix (Fin 64) (Fin 64) ℝ) : pV (F := Ideal) (cM N) = cM (Delta.pr N 5) := by
  unfold pV
  have e0 : addf (cM (1 : Matrix (Fin 64) (Fin 64) ℝ)) (cM N) = cM (Delta.pr N 0) := addf_cM (m := 64) (n := 64) _ _
  have e1 : sqS (F := Ideal) (cM N) = cM (Delta.sq N 1) := sqS_eq N 0
  rw [tri_eq, e0, e1, sqS_eq, sqS_eq, sqS_eq, sqS_eq, prS_eq, prS_eq, prS_eq, prS_eq, prS_eq]
/-- The solution of the chunk's system. -/
theorem uL_eq : uL (F := Ideal) (cB q) (cB k) (cB v) (cB g) (cb b) (cM S) = cM (Delta.uu S k g v b) := by
  unfold uL uV
  rw [nV_eq, pV_eq, svV_eq, cut_cM 0 _ _ (by decide), sqb_cB, sq3_cB, col_cM _ _ (by decide), mulf_cM, subf_cM]
  refine (d3_u _ _).trans ?_
  congr 1

/-- The outputs of a head's chunk are the chunked form's. -/
theorem oL_eq : oL (F := Ideal) (cB q) (cB k) (cB v) (cB g) (cb b) (cM S) = cB (Delta.co S q k g v b sc) := by
  unfold oL
  rw [uL_eq, svV_eq, a2V_eq, cut_cM 64 _ _ (by decide), cut_cM 64 _ _ (by decide), tri_sle, mulf_cM, d3_u, addf_cM]
  funext y
  obtain ⟨i, j, rfl⟩ : ∃ i j, y = ix3 (0 : Fin 1) i j := ⟨y 1, y 2, by
    funext d; match d with
      | 0 => exact Fin.ext (by have : (y 0).val < 1 := (y 0).isLt; show (y 0).val = 0; omega)
      | 1 => rfl
      | 2 => rfl⟩
  refine (shapeCast_ab_1ab_apply _ _ (0 : Fin 1) i j).trans ?_
  show ((_ : ℝ) : EReal) = ((Delta.co S q k g v b sc i j : ℝ) : EReal)
  simp only [stack_bottom, ix2_0, ix2_1]
  rfl
/-- The state after a head's chunk is the chunked form's. -/
theorem sL_eq : sL (F := Ideal) (cB q) (cB k) (cB v) (cB g) (cb b) (cM S) = cM (Delta.cs S k g v b) := by
  unfold sL
  rw [uL_eq, kiV_eq, d3_st, addf_cM, lamV_eq, cut_cM 63 _ _ (by decide), shapeCast_self]
  rw [show shapeCast S128x1 (shapeCast S128 (cM fun (i : Fin 1) j => Real.exp (Delta.lg g ⟨63 + i.val, by omega⟩ j)) shapeCasts_S1x128_S128)
      shapeCasts_S128_S128x1 = cM (fun (i : Fin 128) (_ : Fin 1) => Real.exp (Delta.lg g 63 i)) from
    cM_ext fun i j => (shapeCast_a_a1_apply _ _ i j).trans (shapeCast_1a_a_apply _ _ i)]
  rw [col_cM _ _ (by decide), mulf_cM]
  rfl
/-- The state a head starts from is zero. -/
theorem s0L_eq : s0L (F := Ideal) = cM (fun _ _ => 0) := by
  unfold s0L
  rw [shapeCast_self, zero_cM]

end Chunk

end Cert.KernelIdeal.Lane

end
-- ==== Proof.Model.lean ====
/- The two programs' common result over the real numbers: the recurrence of one head of one batch entry. -/
module

public import proofs.«01_k».proof.Proof.ChunkMath
public import Idealize.ShloMosaic.PureOps.Ideal

@[expose] public section

noncomputable section

namespace Cert.Delta

open Idealize.ShloMosaic

/-- A real array of vectors: batch entry, position, head, coordinate. -/
abbrev Arr : Type := Fin 4 → Fin 2048 → Fin 16 → Fin 128 → ℝ
/-- A real array of numbers: batch entry, position, head. -/
abbrev Arb : Type := Fin 4 → Fin 2048 → Fin 16 → ℝ

/-- The array of extended reals of a real array. -/
def cA (f : Arr) : FVec Ideal ⟨4, ![4, 2048, 16, 128]⟩ .f32 := fun j => ((f (j 0) (j 1) (j 2) (j 3) : ℝ) : EReal)
/-- The array of extended reals of a real array, without the last axis. -/
def cC (f : Arb) : FVec Ideal ⟨3, ![4, 2048, 16]⟩ .f32 := fun j => ((f (j 0) (j 1) (j 2) : ℝ) : EReal)

/-- A head's sequence of vectors, zero past the end. -/
def seq (f : Arr) (b : Fin 4) (h : Fin 16) (n : ℕ) (a : Fin 128) : ℝ := if p : n < 2048 then f b ⟨n, p⟩ h a else 0
/-- A head's sequence of numbers, zero past the end. -/
def seqb (f : Arb) (b : Fin 4) (h : Fin 16) (n : ℕ) : ℝ := if p : n < 2048 then f b ⟨n, p⟩ h else 0

/-- The sequence at a position of the array. -/
theorem seq_of_lt (f : Arr) (b : Fin 4) (h : Fin 16) (t : Fin 2048) : seq f b h t.val = f b t h := by
  funext a; exact dif_pos t.isLt
/-- The sequence of numbers at a position of the array. -/
theorem seqb_of_lt (f : Arb) (b : Fin 4) (h : Fin 16) (t : Fin 2048) : seqb f b h t.val = f b t h := dif_pos t.isLt

/-- The state of a head after `n` positions, from zero. -/
def stAt (k v g : Arr) (be : Arb) (b : Fin 4) (h : Fin 16) (n : ℕ) : State :=
  iter (fun _ _ => 0) (seq k b h) (seq g b h) (seq v b h) (seqb be b h) n

/-- The result: at each position the scaled query against the state after it. -/
def res (sc : ℝ) (q k v g : Arr) (be : Arb) : Arr := fun b t h x =>
  ∑ a, (q b t h a * sc) * stAt k v g be b h (t.val + 1) a x

/-- One position further. -/
theorem stAt_succ (k v g : Arr) (be : Arb) (b : Fin 4) (h : Fin 16) (t : Fin 2048) :
    stAt k v g be b h (t.val + 1) = step (stAt k v g be b h t.val) (k b t h) (g b t h) (v b t h) (be b t h) := by
  rw [← seq_of_lt k, ← seq_of_lt g, ← seq_of_lt v, ← seqb_of_lt be]
  rfl

end Cert.Delta

end
-- ==== Proof.KernelHead.lean ====
/- The kernel's blocks as parts of the argument arrays: the host lines before the region put the heads of all batch
   entries on one axis, a grid point takes a group of heads and 64 positions of them. -/
module

public import proofs.«01_k».proof.Proof.Lanes
public import proofs.«01_k».proof.Proof.LaneValue
public import proofs.«01_k».proof.Proof.Model
public import Idealize.ShloMosaic.Lib.StableHlo.Run

@[expose] public section

set_option maxRecDepth 16384

noncomputable section

namespace Cert.KernelIdeal.Lane

open Idealize.ShloMosaic Idealize.ShloMosaic.TcCoe Idealize.ShloMosaic.Tactic Idealize.ShloMosaic.ValueIdx
open Cert.KernelIdeal Cert.KernelIdeal.Gen

variable {F : FTy → Type} [FloatOps F]

/-- The batch entry of a place on the joined axis. -/
def bt (p : Fin 64) : Fin 4 := ⟨p.val / 16, by omega⟩
/-- The head of a place on the joined axis. -/
def hd (p : Fin 64) : Fin 16 := ⟨p.val % 16, by omega⟩

/-- Heads before positions, then batch entries and heads joined: a place reads its batch entry and head. -/
theorem join_apply {α : Type} (x : S4x2048x16x128.Idx → α) (h : S4x2048x16x128.Transposes [0, 2, 1, 3] S4x16x2048x128)
    (h' : S4x16x2048x128.ShapeCasts S64x2048x128) (p : Fin 64) (r : Fin 2048) (a : Fin 128) :
    shapeCast S64x2048x128 (transpose S4x16x2048x128 [0, 2, 1, 3] x h) h' (ix3 p r a) = x (ix4 (bt p) r (hd p) a) := by
  refine (shapeCast_apply _ h' _ (ix4 (bt p) (hd p) r a) ?_).trans ?_
  · rw [Shape.rowMajor_val_three, Shape.rowMajor_val_four]
    show ((p.val / 16 * 16 + p.val % 16) * 2048 + r.val) * 128 + a.val = (p.val * 2048 + r.val) * 128 + a.val
    omega
  · exact transpose_apply _ x h _ _ fun c => match c with | ⟨0, _⟩ => rfl | ⟨1, _⟩ => rfl | ⟨2, _⟩ => rfl | ⟨3, _⟩ => rfl

/-- The same of the write strengths. -/
theorem joinb_apply {α : Type} (x : S4x2048x16.Idx → α) (h : S4x2048x16.Transposes [0, 2, 1] S4x16x2048)
    (h' : S4x16x2048.ShapeCasts S64x2048x1) (p : Fin 64) (r : Fin 2048) :
    shapeCast S64x2048x1 (transpose S4x16x2048 [0, 2, 1] x h) h' (ix3 p r (0 : Fin 1)) = x (ix3 (bt p) r (hd p)) := by
  refine (shapeCast_apply _ h' _ (ix3 (bt p) (hd p) r) ?_).trans ?_
  · rw [Shape.rowMajor_val_three, Shape.rowMajor_val_three]
    show (p.val / 16 * 16 + p.val % 16) * 2048 + r.val = (p.val * 2048 + r.val) * 1 + 0
    omega
  · exact transpose_apply _ x h _ _ fun c => match c with | ⟨0, _⟩ => rfl | ⟨1, _⟩ => rfl | ⟨2, _⟩ => rfl

variable (m : (ℓ : Loc nD τ sig) → Buf (Elt F) ℓ) (c : Dev nD)

/-- The array of window `0` when the grid starts: the queries, heads first. -/
theorem V_q : V m c main_call0_v1 = shapeCast S64x2048x128 (transpose S4x16x2048x128 [0, 2, 1, 3]
    (m ((c.tc : Thread nD τ).loc main_arg0)) transposes_S4x2048x16x128_S4x16x2048x128_0_2_1_3) shapeCasts_S4x16x2048x128_S64x2048x128 := by
  show StableHlo.after hostOps0 _ (Proc.devRef .tc main_call0_v1) = _
  after_results
  rfl
/-- The array of window `1` when the grid starts: the keys, heads first. -/
theorem V_k : V m c main_call0_v3 = shapeCast S64x2048x128 (transpose S4x16x2048x128 [0, 2, 1, 3]
    (m ((c.tc : Thread nD τ).loc main_arg1)) transposes_S4x2048x16x128_S4x16x2048x128_0_2_1_3) shapeCasts_S4x16x2048x128_S64x2048x128 := by
  show StableHlo.after hostOps0 _ (Proc.devRef .tc main_call0_v3) = _
  after_results
  rfl
/-- The array of window `2` when the grid starts: the values, heads first. -/
theorem V_v : V m c main_call0_v5 = shapeCast S64x2048x128 (transpose S4x16x2048x128 [0, 2, 1, 3]
    (m ((c.tc : Thread nD τ).loc main_arg2)) transposes_S4x2048x16x128_S4x16x2048x128_0_2_1_3) shapeCasts_S4x16x2048x128_S64x2048x128 := by
  show StableHlo.after hostOps0 _ (Proc.devRef .tc main_call0_v5) = _
  after_results
  rfl
/-- The array of window `3` when the grid starts: the decays, heads first. -/
theorem V_g : V m c main_call0_v7 = shapeCast S64x2048x128 (transpose S4x16x2048x128 [0, 2, 1, 3]
    (m ((c.tc : Thread nD τ).loc main_arg3)) transposes_S4x2048x16x128_S4x16x2048x128_0_2_1_3) shapeCasts_S4x16x2048x128_S64x2048x128 := by
  show StableHlo.after hostOps0 _ (Proc.devRef .tc main_call0_v7) = _
  after_results
  rfl
/-- The array of window `4` when the grid starts: the betas, heads first. -/
theorem V_b : V m c main_call0_v9 = shapeCast S64x2048x1 (transpose S4x16x2048 [0, 2, 1]
    (m ((c.tc : Thread nD τ).loc main_arg4)) transposes_S4x2048x16_S4x16x2048_0_2_1) shapeCasts_S4x16x2048_S64x2048x1 := by
  show StableHlo.after hostOps0 _ (Proc.devRef .tc main_call0_v9) = _
  after_results
  rfl

/-- The place on the joined axis of a point's head. -/
def pl (t : Fin cfg0.N) (l : Fin G) : Fin 64 := ⟨t.val / 32 * G + l.val, by
  have h1 : t.val < 2048 / G := Nat.lt_of_lt_of_eq t.isLt N_0
  have h2 := l.isLt
  simp only [G] at h1 h2 ⊢
  omega⟩
/-- The position of a point's row. -/
def ps (t : Fin cfg0.N) (r : Fin 64) : Fin 2048 := ⟨t.val % 32 * 64 + r.val, by omega⟩

/-- Window `0` moves by the head group and the chunk of the grid point. -/
theorem idx0 : ∀ t : Fin cfg0.N, win0_0.index t = ![t.val / 32, t.val % 32, 0] := (by decide +kernel : ∀ t : Fin grid0.N, _)
/-- Window `1` moves by the head group and the chunk of the grid point. -/
theorem idx1 : ∀ t : Fin cfg0.N, win0_1.index t = ![t.val / 32, t.val % 32, 0] := (by decide +kernel : ∀ t : Fin grid0.N, _)
/-- Window `2` moves by the head group and the chunk of the grid point. -/
theorem idx2 : ∀ t : Fin cfg0.N, win0_2.index t = ![t.val / 32, t.val % 32, 0] := (by decide +kernel : ∀ t : Fin grid0.N, _)
/-- Window `3` moves by the head group and the chunk of the grid point. -/
theorem idx3 : ∀ t : Fin cfg0.N, win0_3.index t = ![t.val / 32, t.val % 32, 0] := (by decide +kernel : ∀ t : Fin grid0.N, _)
/-- Window `4` moves by the head group and the chunk of the grid point. -/
theorem idx4 : ∀ t : Fin cfg0.N, win0_4.index t = ![t.val / 32, t.val % 32, 0] := (by decide +kernel : ∀ t : Fin grid0.N, _)
/-- Window `5` moves by the head group and the chunk of the grid point. -/
theorem idx5 : ∀ t : Fin cfg0.N, win0_5.index t = ![t.val / 32, t.val % 32, 0] := (by decide +kernel : ∀ t : Fin grid0.N, _)

/-- An index with a point's coordinates is the place and the position of the point's head and row. -/
theorem at_pl (t : Fin cfg0.N) (l : Fin G) (r : Fin 64) {n : ℕ} (a : Fin n) (e : Fin 3 → ℕ) (he : e = ![t.val / 32, t.val % 32, 0])
    (j : (⟨3, ![64, 2048, n]⟩ : Shape).Idx) (h0 : (j 0).val = e 0 * G + 1 * (l.val + 1 * 0))
    (h1 : (j 1).val = e 1 * 64 + 1 * (0 + 1 * r.val)) (h2 : (j 2).val = e 2 * n + 1 * (0 + 1 * a.val)) :
    j = ix3 (pl t l) (ps t r) a := by
  subst he
  funext x
  match x with
  | 0 => exact Fin.ext (h0.trans (by show t.val / 32 * G + 1 * (l.val + 1 * 0) = t.val / 32 * G + l.val; ring))
  | 1 => exact Fin.ext (h1.trans (by show t.val % 32 * 64 + 1 * (0 + 1 * r.val) = t.val % 32 * 64 + r.val; ring))
  | 2 => exact Fin.ext (h2.trans (by show 0 * n + 1 * (0 + 1 * a.val) = a.val; ring))

/-! A head's part of a point's block reads the window's array at the head's place and the row's position. -/

/-- An element of the block that window `0` holds at a grid point. -/
theorem blk0 (t : Fin cfg0.N) (l : Fin G) (r : Fin 64) (a : Fin 128) :
    blkL (iblk m c 0 t) l (ix3 (0 : Fin 1) r a) = V m c main_call0_v1 (ix3 (pl t l) (ps t r) a) :=
  congrArg (V m c main_call0_v1) (at_pl t l r a _ (idx0 t) _ rfl rfl rfl)
/-- An element of the block that window `1` holds at a grid point. -/
theorem blk1 (t : Fin cfg0.N) (l : Fin G) (r : Fin 64) (a : Fin 128) :
    blkL (iblk m c 1 t) l (ix3 (0 : Fin 1) r a) = V m c main_call0_v3 (ix3 (pl t l) (ps t r) a) :=
  congrArg (V m c main_call0_v3) (at_pl t l r a _ (idx1 t) _ rfl rfl rfl)
/-- An element of the block that window `2` holds at a grid point. -/
theorem blk2 (t : Fin cfg0.N) (l : Fin G) (r : Fin 64) (a : Fin 128) :
    blkL (iblk m c 2 t) l (ix3 (0 : Fin 1) r a) = V m c main_call0_v5 (ix3 (pl t l) (ps t r) a) :=
  congrArg (V m c main_call0_v5) (at_pl t l r a _ (idx2 t) _ rfl rfl rfl)
/-- An element of the block that window `3` holds at a grid point. -/
theorem blk3 (t : Fin cfg0.N) (l : Fin G) (r : Fin 64) (a : Fin 128) :
    blkL (iblk m c 3 t) l (ix3 (0 : Fin 1) r a) = V m c main_call0_v7 (ix3 (pl t l) (ps t r) a) :=
  congrArg (V m c main_call0_v7) (at_pl t l r a _ (idx3 t) _ rfl rfl rfl)
/-- An element of the block that window `4` holds at a grid point. -/
theorem blk4 (t : Fin cfg0.N) (l : Fin G) (r : Fin 64) (a : Fin 1) :
    blkB (iblk m c 4 t) l (ix3 (0 : Fin 1) r a) = V m c main_call0_v9 (ix3 (pl t l) (ps t r) a) :=
  congrArg (V m c main_call0_v9) (at_pl t l r a _ (idx4 t) _ rfl rfl rfl)

/-- A real array's rows of a point's head, as a block. -/
theorem blk_cB (f : Delta.Arr) (t : Fin cfg0.N) (l : Fin G) {x : FVec Ideal ⟨3, ![1, 64, 128]⟩ .f32} {X : FVec Ideal S64x2048x128 .f32}
    (hx : ∀ r a, x (ix3 (0 : Fin 1) r a) = X (ix3 (pl t l) (ps t r) a))
    (hX : X = shapeCast S64x2048x128 (transpose S4x16x2048x128 [0, 2, 1, 3] (Delta.cA f)
      transposes_S4x2048x16x128_S4x16x2048x128_0_2_1_3) shapeCasts_S4x16x2048x128_S64x2048x128) :
    x = cB (fun r : Fin 64 => Delta.seq f (bt (pl t l)) (hd (pl t l)) (t.val % 32 * 64 + r.val)) := by
  funext y
  obtain ⟨u, r, a, rfl⟩ : ∃ (u : Fin 1) (r : Fin 64) (a : Fin 128), y = ix3 u r a := ⟨y 0, y 1, y 2, eq_ix3 y⟩
  obtain rfl : u = 0 := Fin.fin_one_eq_zero u
  rw [hx, hX, join_apply]
  exact congrArg (fun z : ℝ => (z : EReal)) (congrFun (Delta.seq_of_lt f _ _ (ps t r)).symm a)

/-- The same of the write strengths. -/
theorem blk_cb (f : Delta.Arb) (t : Fin cfg0.N) (l : Fin G) {x : FVec Ideal ⟨3, ![1, 64, 1]⟩ .f32} {X : FVec Ideal S64x2048x1 .f32}
    (hx : ∀ r a, x (ix3 (0 : Fin 1) r a) = X (ix3 (pl t l) (ps t r) a))
    (hX : X = shapeCast S64x2048x1 (transpose S4x16x2048 [0, 2, 1] (Delta.cC f)
      transposes_S4x2048x16_S4x16x2048_0_2_1) shapeCasts_S4x16x2048_S64x2048x1) :
    x = cb (fun r : Fin 64 => Delta.seqb f (bt (pl t l)) (hd (pl t l)) (t.val % 32 * 64 + r.val)) := by
  funext y
  obtain ⟨u, r, a, rfl⟩ : ∃ (u : Fin 1) (r : Fin 64) (a : Fin 1), y = ix3 u r a := ⟨y 0, y 1, y 2, eq_ix3 y⟩
  obtain rfl : u = 0 := Fin.fin_one_eq_zero u
  obtain rfl : a = 0 := Fin.fin_one_eq_zero a
  rw [hx, hX, joinb_apply]
  exact congrArg (fun z : ℝ => (z : EReal)) (Delta.seqb_of_lt f _ _ (ps t r)).symm

end Cert.KernelIdeal.Lane

end
-- ==== Proof.KernelValue.lean ====
/- The kernel's result array as one function of its arguments: the states carried along a sweep are the recurrence's,
   the blocks written tile the result, the host lines after the region put the axes back. -/
module

public import proofs.«01_k».proof.Proof.KernelHead
public import Idealize.ShloMosaic.Lib.Pipeline.ValueKit

@[expose] public section

set_option maxRecDepth 16384

noncomputable section

namespace Cert.KernelIdeal.Lane

open Idealize.ShloMosaic hiding ix3 ix4 eq_ix3 eq_ix4
open Idealize.ShloMosaic.TcCoe Idealize.ShloMosaic.Tactic Idealize.ShloMosaic.ValueIdx Idealize.SL.Sem
open Cert.KernelIdeal Cert.KernelIdeal.Gen

variable (m : (ℓ : Loc nD τ sig) → Buf (Elt Ideal) ℓ) (c : Dev nD)

/-- The argument arrays hold real numbers. -/
structure Args (q k v g : Delta.Arr) (be : Delta.Arb) : Prop where
  q : m ((c.tc : Thread nD τ).loc main_arg0) = Delta.cA q
  k : m ((c.tc : Thread nD τ).loc main_arg1) = Delta.cA k
  v : m ((c.tc : Thread nD τ).loc main_arg2) = Delta.cA v
  g : m ((c.tc : Thread nD τ).loc main_arg3) = Delta.cA g
  be : m ((c.tc : Thread nD τ).loc main_arg4) = Delta.cC be

variable {m c} {q k v g : Delta.Arr} {be : Delta.Arb} (H : Args m c q k v g be)

include H in
/-- A head's function of a point's blocks, at real blocks. -/
theorem atL_real {α : Type} (f : Vec Ideal S1x64x128 .f32 → Vec Ideal S1x64x128 .f32 → Vec Ideal S1x64x128 .f32 → Vec Ideal S1x64x128 .f32 →
    Vec Ideal S1x64x1 .f32 → Vec Ideal S128x128 .f32 → α) (t : Fin cfg0.N) (l : Fin G) (s : Vec Ideal S128x128 .f32) :
    atL m f c t l s
      = f (cB fun r : Fin 64 => Delta.seq q (bt (pl t l)) (hd (pl t l)) (t.val % 32 * 64 + r.val))
          (cB fun r : Fin 64 => Delta.seq k (bt (pl t l)) (hd (pl t l)) (t.val % 32 * 64 + r.val))
          (cB fun r : Fin 64 => Delta.seq v (bt (pl t l)) (hd (pl t l)) (t.val % 32 * 64 + r.val))
          (cB fun r : Fin 64 => Delta.seq g (bt (pl t l)) (hd (pl t l)) (t.val % 32 * 64 + r.val))
          (cb fun r : Fin 64 => Delta.seqb be (bt (pl t l)) (hd (pl t l)) (t.val % 32 * 64 + r.val)) s := by
  unfold atL
  rw [blk_cB q t l (blk0 m c t l) (H.q ▸ V_q m c), blk_cB k t l (blk1 m c t l) (H.k ▸ V_k m c),
    blk_cB v t l (blk2 m c t l) (H.v ▸ V_v m c), blk_cB g t l (blk3 m c t l) (H.g ▸ V_g m c),
    blk_cb be t l (blk4 m c t l) (H.be ▸ V_b m c)]

include H in
/-- A point moves a head's state 64 positions on. -/
theorem sL_real (t : Fin cfg0.N) (l : Fin G) :
    atL m sL c t l (cM (Delta.stAt k v g be (bt (pl t l)) (hd (pl t l)) (t.val % 32 * 64)))
      = cM (Delta.stAt k v g be (bt (pl t l)) (hd (pl t l)) (t.val % 32 * 64 + 64)) := by
  rw [atL_real H]
  refine (sL_eq _ _ _ _ _ _).trans (congrArg cM ?_)
  unfold Delta.stAt
  rw [Delta.iter_add]
  exact Delta.cs_eq _ (fun i => Delta.seq k _ _ (t.val % 32 * 64 + i)) (fun i => Delta.seq g _ _ (t.val % 32 * 64 + i))
    (fun i => Delta.seq v _ _ (t.val % 32 * 64 + i)) (fun i => Delta.seqb be _ _ (t.val % 32 * 64 + i))

include H in
/-- What a point computes of a head: the result at each of its positions. -/
theorem oL_real (t : Fin cfg0.N) (l : Fin G) (r : Fin 64) (x : Fin 128) :
    atL m oL c t l (cM (Delta.stAt k v g be (bt (pl t l)) (hd (pl t l)) (t.val % 32 * 64))) (ix3 0 r x)
      = ((Delta.res sc q k v g be (bt (pl t l)) (ps t r) (hd (pl t l)) x : ℝ) : EReal) := by
  rw [atL_real H]
  refine (congrFun (oL_eq _ _ _ _ _ _) _).trans (congrArg (fun z : ℝ => (z : EReal)) ?_)
  refine (Delta.co_eq _ (fun i => Delta.seq q _ _ (t.val % 32 * 64 + i)) (fun i => Delta.seq k _ _ (t.val % 32 * 64 + i))
    (fun i => Delta.seq g _ _ (t.val % 32 * 64 + i)) (fun i => Delta.seq v _ _ (t.val % 32 * 64 + i))
    (fun i => Delta.seqb be _ _ (t.val % 32 * 64 + i)) sc r x).trans ?_
  unfold Delta.res
  refine Finset.sum_congr rfl fun a _ => ?_
  unfold Delta.stAt
  rw [show (ps t r).val + 1 = t.val % 32 * 64 + (r.val + 1) from rfl, Delta.iter_add _ _ _ _ _ (t.val % 32 * 64) (r.val + 1),
    show Delta.seq q (bt (pl t l)) (hd (pl t l)) (t.val % 32 * 64 + r.val) = q (bt (pl t l)) (ps t r) (hd (pl t l)) from
      Delta.seq_of_lt q _ _ (ps t r)]

/-- The zero state is the recurrence's first. -/
theorem s0_real (k v g : Delta.Arr) (be : Delta.Arb) (t : Fin cfg0.N) (h0 : t.val % 32 = 0) (l : Fin G) :
    s0L (F := Ideal) = cM (Delta.stAt k v g be (bt (pl t l)) (hd (pl t l)) (t.val % 32 * 64)) := by
  rw [s0L_eq, h0]
  rfl

include H in
/-- The state carried after a point is the recurrence's after the point's positions. -/
theorem state_real : ∀ (n : ℕ) (hn : n < cfg0.N) (l : Fin G),
    stV (outsAt0 m c n hn) l = cM (Delta.stAt k v g be (bt (pl ⟨n, hn⟩ l)) (hd (pl ⟨n, hn⟩ l)) (n % 32 * 64 + 64)) := by
  intro n
  induction n using Nat.strong_induction_on with
  | _ n ih =>
    intro hn l
    by_cases h0 : n % 32 = 0
    · rw [state_A m c ⟨n, hn⟩ h0 l, s0_real k v g be ⟨n, hn⟩ h0 l]
      exact sL_real H ⟨n, hn⟩ l
    · have hn' : n - 1 < cfg0.N := Nat.lt_of_le_of_lt (Nat.sub_le _ _) hn
      have e : pl ⟨n - 1, hn'⟩ l = pl ⟨n, hn⟩ l := Fin.ext (by
        show (n - 1) / 32 * G + l.val = n / 32 * G + l.val
        rw [show (n - 1) / 32 = n / 32 by omega])
      rw [state_B m c ⟨n, hn⟩ h0 l]
      refine (congrArg (atL m sL c ⟨n, hn⟩ l) ((ih (n - 1) (by omega) hn' l).trans ?_)).trans (sL_real H ⟨n, hn⟩ l)
      rw [e, show (n - 1) % 32 * 64 + 64 = n % 32 * 64 by omega]

include H in
/-- The block a point leaves for the result, at an index. -/
theorem out_real (t : Fin cfg0.N) (l : Fin G) (r : Fin 64) (x : Fin 128) :
    (outsAt0 m c t.val t.isLt).1 (ix3 l r x)
      = ((Delta.res sc q k v g be (bt (pl t l)) (ps t r) (hd (pl t l)) x : ℝ) : EReal) := by
  by_cases h0 : t.val % 32 = 0
  · rw [out_A m c t h0 l r x, s0_real k v g be t h0 l]
    exact oL_real H t l r x
  · have hn' : t.val - 1 < cfg0.N := Nat.lt_of_le_of_lt (Nat.sub_le _ _) t.isLt
    have e : pl ⟨t.val - 1, hn'⟩ l = pl t l := Fin.ext (by
      show (t.val - 1) / 32 * G + l.val = t.val / 32 * G + l.val
      rw [show (t.val - 1) / 32 = t.val / 32 by omega])
    rw [out_B m c t h0 l r x]
    refine (congrArg (fun s => atL m oL c t l s (ix3 0 r x)) ((state_real H (t.val - 1) hn' l).trans ?_)).trans (oL_real H t l r x)
    rw [e, show (t.val - 1) % 32 * 64 + 64 = t.val % 32 * 64 by omega]

/-- The result with batch entries and heads joined. -/
def joined (f : Delta.Arr) : Vec Ideal S64x2048x128 .f32 := fun j => ((f (bt (j 0)) (j 1) (hd (j 0)) (j 2) : ℝ) : EReal)

include H in
/-- The region's output array at its end. -/
theorem arr_real : (dats m 0 c).arrAt 5 cfg0.N = joined (Delta.res sc q k v g be) := by
  refine (dats m 0 c).arrAt_eq_of_covers 5 _ (by decide +kernel) fun t _ y => ?_
  rw [after0_5]
  obtain ⟨l, r, x, rfl⟩ : ∃ (l : Fin G) (r : Fin 64) (x : Fin 128), y = ix3 l r x := ⟨y 0, y 1, y 2, eq_ix3 y⟩
  refine (out_real H t l r x).trans ?_
  have e : ((cfg0.win 5).blk t).view.emb (ix3 l r x) = ix3 (pl t l) (ps t r) x := by
    refine at_pl t l r x _ (idx5 t) _ rfl ?_ ?_
    · exact Eq.trans (b := win0_5.index t 1 * 64 + 1 * r.val) rfl (by ring)
    · exact Eq.trans (b := win0_5.index t 2 * 128 + 1 * x.val) rfl (by ring)
  show _ = joined _ _
  rw [e]
  rfl

/-- Heads split off again and put after the positions. -/
theorem split_apply (f : Delta.Arr) (h : S64x2048x128.ShapeCasts S4x16x2048x128) (h' : S4x16x2048x128.Transposes [0, 2, 1, 3] S4x2048x16x128) :
    transpose S4x2048x16x128 [0, 2, 1, 3] (shapeCast S4x16x2048x128 (joined f) h) h' = Delta.cA f := by
  funext j
  obtain ⟨b, t, hh, x, rfl⟩ : ∃ (b : Fin 4) (t : Fin 2048) (hh : Fin 16) (x : Fin 128), j = ix4 b t hh x := ⟨j 0, j 1, j 2, j 3, eq_ix4 j⟩
  refine (transpose_apply _ _ h' _ (ix4 b hh t x) fun c => match c with | ⟨0, _⟩ => rfl | ⟨1, _⟩ => rfl | ⟨2, _⟩ => rfl | ⟨3, _⟩ => rfl).trans ?_
  refine (shapeCast_apply _ h _ (ix3 (⟨b.val * 16 + hh.val, by omega⟩ : Fin 64) t x) ?_).trans ?_
  · rw [Shape.rowMajor_val_three, Shape.rowMajor_val_four]
    rfl
  · show ((f (bt ⟨b.val * 16 + hh.val, _⟩) t (hd ⟨b.val * 16 + hh.val, _⟩) x : ℝ) : EReal) = ((f b t hh x : ℝ) : EReal)
    rw [show bt ⟨b.val * 16 + hh.val, by omega⟩ = b from Fin.ext (by show (b.val * 16 + hh.val) / 16 = b.val; omega),
      show hd ⟨b.val * 16 + hh.val, by omega⟩ = hh from Fin.ext (by show (b.val * 16 + hh.val) % 16 = hh.val; omega)]

include H in
/-- The result buffer as the lines after the region leave it. -/
theorem tail_real : Pipeline.afterTail₀ cfgs (dats m) 0 (V0 m) [hostOps1] c main_v0 = Delta.cA (Delta.res sc q k v g be) := by
  show StableHlo.after hostOps1 _ (Proc.devRef .tc main_v0) = _
  after_results
  refine Eq.trans ?_ (split_apply (Delta.res sc q k v g be) shapeCasts_S64x2048x128_S4x16x2048x128 transposes_S4x16x2048x128_S4x2048x16x128_0_2_1_3)
  have w := (Pipeline.withArrays_arr spec0 launch0.win.arr_inj c (V0 m c) (fun w => (dats m 0 c).arrAt w cfg0.N) 5).trans (arr_real H)
  exact congrArg (fun X => transpose S4x2048x16x128 [0, 2, 1, 3] (shapeCast S4x16x2048x128 X shapeCasts_S64x2048x128_S4x16x2048x128)
    transposes_S4x16x2048x128_S4x2048x16x128_0_2_1_3) w

include H in
/-- After the run the result buffer holds the recurrence's result. -/
theorem post_real {r} (h : Pipeline.FramePost cfgs (dats m) 0 (Pipeline.afterTail₀ cfgs (dats m) 0 (V0 m) [hostOps1]) r) :
    r.2.mem ((c.tc : Thread nD τ).loc main_v0) = Delta.cA (Delta.res sc q k v g be) :=
  ((h c).2 main_v0 (by decide)).trans (tail_real H)

end Cert.KernelIdeal.Lane

end
-- ==== Proof.RefStep.lean ====
/- One trip of the reference's loop over the real numbers: at a position it reads that position's rows, moves the
   states of all heads one step and writes the row of results. -/
module

public import proofs.«01_k».proof.Proof.Gen.ReferenceIdeal.Run
public import proofs.«01_k».proof.Proof.LaneValue
public import proofs.«01_k».proof.Proof.Model
public import Idealize.ShloMosaic.Lib.Pipeline.Value
public import Idealize.ShloMosaic.Lib.DynamicIndex
public import Idealize.ShloMosaic.Lib.WordCmp
public import Idealize.ShloMosaic.Lib.IdealHost
public import Idealize.ShloMosaic.Lib.ValueIdxCoords

@[expose] public section

set_option maxRecDepth 16384

noncomputable section

namespace Cert.ReferenceIdeal.Loop

open Idealize.ShloMosaic
open Idealize.ShloMosaic.TcCoe Idealize.ShloMosaic.ValueIdx Idealize.SL.Sem
open Cert.ReferenceIdeal Cert.ReferenceIdeal.Gen
open Cert.KernelIdeal.Lane (coe_sum sc sc_coe)

/-! ## Real arrays as the loop holds them -/

/-- A row of vectors of all heads. -/
def c3 (f : Fin 4 → Fin 16 → Fin 128 → ℝ) : FVec Ideal S4x16x128 .f32 := fun j => ((f (j 0) (j 1) (j 2) : ℝ) : EReal)
/-- A row of numbers of all heads. -/
def c2 (f : Fin 4 → Fin 16 → ℝ) : FVec Ideal S4x16 .f32 := fun j => ((f (j 0) (j 1) : ℝ) : EReal)
/-- The states of all heads. -/
def c4 (f : Fin 4 → Fin 16 → Delta.State) : FVec Ideal S4x16x128x128 .f32 := fun j => ((f (j 0) (j 1) (j 2) (j 3) : ℝ) : EReal)
/-- An array with positions first. -/
def cT (f : Delta.Arr) : FVec Ideal S2048x4x16x128 .f32 := fun j => ((f (j 1) (j 0) (j 2) (j 3) : ℝ) : EReal)
/-- An array of numbers with positions first. -/
def cU (f : Delta.Arb) : FVec Ideal S2048x4x16 .f32 := fun j => ((f (j 1) (j 0) (j 2) : ℝ) : EReal)

/-- A row with real elements is the embedded real row. -/
theorem c3_ext {x : FVec Ideal S4x16x128 .f32} {f : Fin 4 → Fin 16 → Fin 128 → ℝ}
    (h : ∀ b y a, x (ix3 b y a) = ((f b y a : ℝ) : EReal)) : x = c3 f := by
  funext j; rw [eq_ix3 j]; exact h _ _ _
/-- States with real elements are the embedded real states. -/
theorem c4_ext {x : FVec Ideal S4x16x128x128 .f32} {f : Fin 4 → Fin 16 → Delta.State}
    (h : ∀ b y a z, x (ix4 b y a z) = ((f b y a z : ℝ) : EReal)) : x = c4 f := by
  funext j; rw [eq_ix4 j]; exact h _ _ _ _

/-- A small position as a signed word is itself. -/
theorem pos_toInt (t : ℕ) (ht : t < 2048) : (BitVec.ofNat 32 t).toInt = (t : ℤ) := by
  rw [BitVec.toInt_eq_toNat_cond, BitVec.toNat_ofNat, Nat.mod_eq_of_lt (by omega), if_pos (by omega)]

/-- The start of position `t`'s row, over four axes. -/
theorem start4 {x : (⟨S_, .i32⟩ : BufTy).Contents (Elt Ideal)} {t : ℕ} (ht : t < 2048) (hx : x = fun _ => BitVec.ofNat 32 t) (k : Fin 4) :
    (((![x, constantI S_ 32 0#32, constantI S_ 32 0#32, constantI S_ 32 0#32] : Fin 4 → (⟨S_, .i32⟩ : BufTy).Contents (Elt Ideal))) k
      (Shape.Idx.first h_S_)).toInt = ((![t, 0, 0, 0] : Fin 4 → ℕ) k : ℤ) := by
  subst hx
  match k with
  | 0 => exact pos_toInt t ht
  | 1 => rfl
  | 2 => rfl
  | 3 => rfl
/-- The start of position `t`'s row, over three axes. -/
theorem start3 {x : (⟨S_, .i32⟩ : BufTy).Contents (Elt Ideal)} {t : ℕ} (ht : t < 2048) (hx : x = fun _ => BitVec.ofNat 32 t) (k : Fin 3) :
    (((![x, constantI S_ 32 0#32, constantI S_ 32 0#32] : Fin 3 → (⟨S_, .i32⟩ : BufTy).Contents (Elt Ideal))) k
      (Shape.Idx.first h_S_)).toInt = ((![t, 0, 0] : Fin 3 → ℕ) k : ℤ) := by
  subst hx
  match k with
  | 0 => exact pos_toInt t ht
  | 1 => rfl
  | 2 => rfl

/-- A position's row fits, over four axes. -/
theorem fits4 (t : Fin 2048) : S2048x4x16x128.Slices ![t.val, 0, 0, 0] S1x4x16x128 := ⟨rfl, fun a => by
  match a with
  | ⟨0, _⟩ => show t.val + 1 ≤ 2048; omega
  | ⟨1, _⟩ => show 0 + 4 ≤ 4; omega
  | ⟨2, _⟩ => show 0 + 16 ≤ 16; omega
  | ⟨3, _⟩ => show 0 + 128 ≤ 128; omega⟩
/-- A position's row fits, over three axes. -/
theorem fits3 (t : Fin 2048) : S2048x4x16.Slices ![t.val, 0, 0] S1x4x16 := ⟨rfl, fun a => by
  match a with
  | ⟨0, _⟩ => show t.val + 1 ≤ 2048; omega
  | ⟨1, _⟩ => show 0 + 4 ≤ 4; omega
  | ⟨2, _⟩ => show 0 + 16 ≤ 16; omega⟩

/-- The row of a position. -/
theorem row4 (f : Delta.Arr) (t : Fin 2048) (start : Fin 4 → ℤ) (hs : ∀ k, start k = ((![t.val, 0, 0, 0] : Fin 4 → ℕ) k : ℤ))
    (h : S2048x4x16x128.Slices (fun _ => 0) S1x4x16x128) (h' : S1x4x16x128.ShapeCasts S4x16x128) :
    shapeCast S4x16x128 (Host.dynamicSlice S1x4x16x128 (cT f) start h) h' = c3 (fun b y a => f b t y a) := by
  refine c3_ext fun b y a => ?_
  rw [Host.dynamicSlice_eq_extractStridedSlice S1x4x16x128 (cT f) start _ h (fits4 t) hs]
  refine (shapeCast_apply _ h' _ (ix4 (0 : Fin 1) b y a) ?_).trans ?_
  · rw [Shape.rowMajor_val_three, Shape.rowMajor_val_four]
    show ((0 * 4 + b.val) * 16 + y.val) * 128 + a.val = (b.val * 16 + y.val) * 128 + a.val
    omega
  · refine (extractStridedSlice_apply _ (cT f) (fits4 t) _ (ix4 t b y a) fun k => ?_).trans rfl
    match k with
    | ⟨0, _⟩ => rfl
    | ⟨1, _⟩ => exact (Nat.zero_add _).symm
    | ⟨2, _⟩ => exact (Nat.zero_add _).symm
    | ⟨3, _⟩ => exact (Nat.zero_add _).symm
/-- A position's row of numbers. -/
theorem row3 (f : Delta.Arb) (t : Fin 2048) (start : Fin 3 → ℤ) (hs : ∀ k, start k = ((![t.val, 0, 0] : Fin 3 → ℕ) k : ℤ))
    (h : S2048x4x16.Slices (fun _ => 0) S1x4x16) (h' : S1x4x16.ShapeCasts S4x16) :
    shapeCast S4x16 (Host.dynamicSlice S1x4x16 (cU f) start h) h' = c2 (fun b y => f b t y) := by
  funext j
  obtain ⟨b, y, rfl⟩ : ∃ (b : Fin 4) (y : Fin 16), j = ix2 b y := ⟨j 0, j 1, eq_ix2 j⟩
  rw [Host.dynamicSlice_eq_extractStridedSlice S1x4x16 (cU f) start _ h (fits3 t) hs]
  refine (shapeCast_apply _ h' _ (ix3 (0 : Fin 1) b y) ?_).trans ?_
  · rw [Shape.rowMajor_val_two, Shape.rowMajor_val_three]
    show (0 * 4 + b.val) * 16 + y.val = b.val * 16 + y.val
    omega
  · refine (extractStridedSlice_apply _ (cU f) (fits3 t) _ (ix3 t b y) fun k => ?_).trans rfl
    match k with
    | ⟨0, _⟩ => rfl
    | ⟨1, _⟩ => exact (Nat.zero_add _).symm
    | ⟨2, _⟩ => exact (Nat.zero_add _).symm

/-- A row of vectors against the states of their heads. -/
theorem dot_c (k : Fin 4 → Fin 16 → Fin 128 → ℝ) (S : Fin 4 → Fin 16 → Delta.State) :
    Host.dotGeneral (F := Ideal) dot_S4x16x128_S4x16x128x128_S4x16x128_2_2_n_3_01_01 none (c3 k) (c4 S)
      = c3 (fun b y x => ∑ a, k b y a * S b y a x) := by
  refine c3_ext fun b y x => ?_
  refine (Ideal.dotGeneral_apply _ none _ (c3 k) (c4 S) _).trans ?_
  rw [coe_sum, ← Equiv.sum_comp (contrEquiv1 dot_S4x16x128_S4x16x128x128_S4x16x128_2_2_n_3_01_01 128 rfl rfl).symm]
  refine Finset.sum_congr rfl fun a _ => ?_
  have hk := contrEquiv1_symm_val dot_S4x16x128_S4x16x128x128_S4x16x128_2_2_n_3_01_01 128 rfl rfl a
  rw [EReal.coe_mul]
  have el : dot_S4x16x128_S4x16x128x128_S4x16x128_2_2_n_3_01_01.lhsIdx (ix3 b y x)
      ((contrEquiv1 dot_S4x16x128_S4x16x128x128_S4x16x128_2_2_n_3_01_01 128 rfl rfl).symm a) = ix3 b y a := by
    funext d; apply Fin.ext
    match d with
    | ⟨0, _⟩ => rfl
    | ⟨1, _⟩ => rfl
    | ⟨2, _⟩ => exact hk
  have er : dot_S4x16x128_S4x16x128x128_S4x16x128_2_2_n_3_01_01.rhsIdx (ix3 b y x)
      ((contrEquiv1 dot_S4x16x128_S4x16x128x128_S4x16x128_2_2_n_3_01_01 128 rfl rfl).symm a) = ix4 b y a x := by
    funext d; apply Fin.ext
    match d with
    | ⟨0, _⟩ => rfl
    | ⟨1, _⟩ => rfl
    | ⟨2, _⟩ => exact hk
    | ⟨3, _⟩ => rfl
  rw [el, er]
  rfl

/-! ## Rows spread over the states -/

/-- A row of vectors along the states' key axis. -/
theorem keyAxis (x : FVec Ideal S4x16x128 .f32) (b : Fin 4) (y : Fin 16) (a z : Fin 128) :
    broadcastInDim S4x16x128x128 ![0, 1, 2, 3] bcast_S4x16x128x1_S4x16x128x128_0_1_2_3
      (broadcastInDim S4x16x128x1 ![0, 1, 2] bcast_S4x16x128_S4x16x128x1_0_1_2 x) (ix4 b y a z) = x (ix3 b y a) := by
  refine (broadcastInDim_apply _ _ _ _ (ix4 b y a (0 : Fin 1)) fun d => ?_).trans (broadcastInDim_apply _ _ _ _ (ix3 b y a) fun d => ?_)
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl
/-- A row of vectors along the states' value axis. -/
theorem valAxis (x : FVec Ideal S4x16x128 .f32) (b : Fin 4) (y : Fin 16) (a z : Fin 128) :
    broadcastInDim S4x16x128x128 ![0, 1, 2, 3] bcast_S4x16x1x128_S4x16x128x128_0_1_2_3
      (broadcastInDim S4x16x1x128 ![0, 1, 3] bcast_S4x16x128_S4x16x1x128_0_1_3 x) (ix4 b y a z) = x (ix3 b y z) := by
  refine (broadcastInDim_apply _ _ _ _ (ix4 b y (0 : Fin 1) z) fun d => ?_).trans (broadcastInDim_apply _ _ _ _ (ix3 b y z) fun d => ?_)
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl
/-- A row of numbers along the vectors. -/
theorem numAxis (x : FVec Ideal S4x16 .f32) (b : Fin 4) (y : Fin 16) (a : Fin 128) :
    broadcastInDim S4x16x128 ![0, 1, 2] bcast_S4x16x1_S4x16x128_0_1_2
      (broadcastInDim S4x16x1 ![0, 1] bcast_S4x16_S4x16x1_0_1 x) (ix3 b y a) = x (ix2 b y) := by
  refine (broadcastInDim_apply _ _ _ _ (ix3 b y (0 : Fin 1)) fun d => ?_).trans (broadcastInDim_apply _ _ _ _ (ix2 b y) fun d => ?_)
  · match d with
    | ⟨0, _⟩ => rfl
    | ⟨1, _⟩ => rfl
    | ⟨2, _⟩ => rfl
  · match d with
    | ⟨0, _⟩ => rfl
    | ⟨1, _⟩ => rfl

/-- Writing a row over a position's row. -/
theorem write_row (o : FVec Ideal S2048x4x16x128 .f32) (r : FVec Ideal S4x16x128 .f32) (t : Fin 2048) (start : Fin 4 → ℤ)
    (hs : ∀ k, start k = ((![t.val, 0, 0, 0] : Fin 4 → ℕ) k : ℤ)) (h : S2048x4x16x128.Slices (fun _ => 0) S1x4x16x128)
    (j : Fin 2048) (b : Fin 4) (y : Fin 16) (x : Fin 128) :
    Host.dynamicUpdateSlice o (broadcastInDim S1x4x16x128 ![1, 2, 3] bcast_S4x16x128_S1x4x16x128_1_2_3 r) start h (ix4 j b y x)
      = if j = t then r (ix3 b y x) else o (ix4 j b y x) := by
  rw [WordCmp.dynamicUpdateSlice_eq_update o _ start h ![t.val, 0, 0, 0] (fits4 t) hs]
  unfold updateSlice
  by_cases e : j = t
  · subst e
    rw [if_pos rfl, dif_pos]
    · refine broadcastInDim_apply _ _ _ _ (ix3 b y x) fun d => ?_
      match d with
      | ⟨0, _⟩ => rfl
      | ⟨1, _⟩ => rfl
      | ⟨2, _⟩ => rfl
    · intro d
      match d with
      | ⟨0, _⟩ => exact ⟨le_refl j.val, Nat.lt_succ_self j.val⟩
      | ⟨1, _⟩ => exact ⟨Nat.zero_le _, show b.val < 0 + 4 by omega⟩
      | ⟨2, _⟩ => exact ⟨Nat.zero_le _, show y.val < 0 + 16 by omega⟩
      | ⟨3, _⟩ => exact ⟨Nat.zero_le _, show x.val < 0 + 128 by omega⟩
  · rw [if_neg e, dif_neg]
    intro H
    have h0 : t.val ≤ j.val ∧ j.val < t.val + 1 := H (0 : Fin 4)
    exact e (Fin.ext (by omega))

/-! ## A trip -/

/-- What the loop carries at the start of trip `n`, but for the results. -/
structure Carried (qs k v g : Delta.Arr) (be : Delta.Arb) (n : ℕ) (X : Valuation τ sig (Elt Ideal)) : Prop where
  hq : X (Proc.devRef .tc main_v9_0) = cT qs
  hk : X (Proc.devRef .tc main_v9_1) = cT k
  hv : X (Proc.devRef .tc main_v9_2) = cT v
  hg : X (Proc.devRef .tc main_v9_3) = cT g
  hbe : X (Proc.devRef .tc main_v9_4) = cU be
  hi : X (Proc.devRef .tc main_v9_5) = fun _ => BitVec.ofNat 32 n
  hs : X (Proc.devRef .tc main_v9_6) = c4 (fun b y => Delta.stAt k v g be b y n)

variable {qs k v g : Delta.Arr} {be : Delta.Arb} {X : Valuation τ sig (Elt Ideal)} (t : Fin 2048) (H : Carried qs k v g be t.val X)

include H in
/-- The trip's row of keys. -/
theorem key_row : Value.res_main_while0b_v12 X = c3 (fun b y a => k b t y a) := by
  unfold Value.res_main_while0b_v12
  rw [H.hk]
  exact row4 k t _ (start4 t.isLt H.hi) _ _

include H in
/-- The states after the decay. -/
theorem decayed : Value.res_main_while0b_v19 X
    = c4 (fun b y a x => Delta.stAt k v g be b y t.val a x * Real.exp (g b t y a)) := by
  unfold Value.res_main_while0b_v19
  rw [H.hs, H.hg]
  refine c4_ext fun b y a x => ?_
  refine (congrArg (fun z => c4 (fun b y => Delta.stAt k v g be b y t.val) (ix4 b y a x) * z)
    ((keyAxis _ b y a x).trans (congrArg Ideal.exp (congrFun (row4 g t _ (start4 t.isLt H.hi) Gen.sliceFits_S2048x4x16x128_S1x4x16x128 Gen.shapeCasts_S1x4x16x128_S4x16x128) (ix3 b y a))))).trans ?_
  exact (EReal.coe_mul _ _).symm

include H in
/-- The states after the trip. -/
theorem stepped : Value.res_main_while0b_v30 X = c4 (fun b y => Delta.stAt k v g be b y (t.val + 1)) := by
  unfold Value.res_main_while0b_v30
  rw [key_row t H, decayed t H, dot_c, H.hbe, H.hv]
  refine c4_ext fun b y a x => ?_
  refine (congrArg₂ (fun z w => c4 (fun b y a x => Delta.stAt k v g be b y t.val a x * Real.exp (g b t y a)) (ix4 b y a x) + z * w)
    ((keyAxis _ b y a x).trans (congrArg (fun z => z * c3 (fun b y a => k b t y a) (ix3 b y a))
      ((numAxis _ b y a).trans (congrFun (row3 be t _ (start3 t.isLt H.hi) Gen.sliceFits_S2048x4x16_S1x4x16 Gen.shapeCasts_S1x4x16_S4x16) (ix2 b y)))))
    ((valAxis _ b y a x).trans (congrArg (fun z => z - c3 (fun b y x => ∑ a, k b t y a * (Delta.stAt k v g be b y t.val a x * Real.exp (g b t y a))) (ix3 b y x))
      (congrFun (row4 v t _ (start4 t.isLt H.hi) Gen.sliceFits_S2048x4x16x128_S1x4x16x128 Gen.shapeCasts_S1x4x16x128_S4x16x128) (ix3 b y x))))).trans ?_
  rw [Delta.stAt_succ, Delta.step, EReal.coe_add, EReal.coe_mul, EReal.coe_mul, EReal.coe_sub, EReal.coe_mul]
  rfl

include H in
/-- The results after the trip: the position's row is the trip's, the others are kept. -/
theorem results (j : Fin 2048) (b : Fin 4) (y : Fin 16) (x : Fin 128) :
    (Value.STEP X (Proc.devRef .tc main_v9_7) : FVec Ideal S2048x4x16x128 .f32) (ix4 j b y x)
      = if j = t then ((∑ a, qs b t y a * Delta.stAt k v g be b y (t.val + 1) a x : ℝ) : EReal)
        else (X (Proc.devRef .tc main_v9_7) : FVec Ideal S2048x4x16x128 .f32) (ix4 j b y x) := by
  rw [Value.STEP_main_v9_7]
  unfold Value.step_main_v9_7
  rw [H.hq, stepped t H]
  refine (write_row _ _ t _ (start4 t.isLt H.hi) _ j b y x).trans ?_
  refine if_congr Iff.rfl ?_ rfl
  refine (congrFun ((congrArg (fun r => Host.dotGeneral (F := Ideal) (φ₁ := .f32) (φ₂ := .f32) dot_S4x16x128_S4x16x128x128_S4x16x128_2_2_n_3_01_01 none r _)
    (row4 qs t _ (start4 t.isLt H.hi) Gen.sliceFits_S2048x4x16x128_S1x4x16x128 Gen.shapeCasts_S1x4x16x128_S4x16x128)).trans (dot_c _ _)) (ix3 b y x)).trans rfl

include H in
/-- What the loop carries at the start of the next trip. -/
theorem carried : Carried qs k v g be (t.val + 1) (Value.STEP X) where
  hq := (Value.STEP_main_v9_0 X).trans H.hq
  hk := (Value.STEP_main_v9_1 X).trans H.hk
  hv := (Value.STEP_main_v9_2 X).trans H.hv
  hg := (Value.STEP_main_v9_3 X).trans H.hg
  hbe := (Value.STEP_main_v9_4 X).trans H.hbe
  hi := by
    rw [Value.STEP_main_v9_5]
    unfold Value.step_main_v9_5
    rw [H.hi]
    funext j
    exact (BitVec.ofNat_add _ _).symm
  hs := (Value.STEP_main_v9_6 X).trans (stepped t H)

end Cert.ReferenceIdeal.Loop

end
-- ==== Proof.RefValue.lean ====
/- The reference's result over the real numbers: the trips of its loop carry every head's state through all positions,
   and the transposed results are the model's. -/
module

public import proofs.«01_k».proof.Proof.RefStep

@[expose] public section

set_option maxRecDepth 16384

noncomputable section

namespace Cert.ReferenceIdeal.Loop

open Idealize.ShloMosaic
open Idealize.ShloMosaic.TcCoe Idealize.ShloMosaic.Tactic Idealize.ShloMosaic.ValueIdx Idealize.ShloMosaic.StableHlo Idealize.SL.Sem
open Cert.ReferenceIdeal Cert.ReferenceIdeal.Gen
open Cert.KernelIdeal.Lane (coe_sum sc sc_coe)

/-- The arguments hold real arrays. -/
structure RArgs (m : (ℓ : Loc nD τ sig) → Buf (Elt Ideal) ℓ) (c : Dev nD) (q k v g : Delta.Arr) (be : Delta.Arb) : Prop where
  hq : m ((c.tc : Thread nD τ).loc main_arg0) = Delta.cA q
  hk : m ((c.tc : Thread nD τ).loc main_arg1) = Delta.cA k
  hv : m ((c.tc : Thread nD τ).loc main_arg2) = Delta.cA v
  hg : m ((c.tc : Thread nD τ).loc main_arg3) = Delta.cA g
  hbe : m ((c.tc : Thread nD τ).loc main_arg4) = Delta.cC be

/-! ## Before and after the loop -/

/-- An array with real elements is the embedded real array, positions first. -/
theorem cT_ext {x : FVec Ideal S2048x4x16x128 .f32} {f : Delta.Arr}
    (h : ∀ t b y a, x (ix4 t b y a) = ((f b t y a : ℝ) : EReal)) : x = cT f := by
  funext j; rw [eq_ix4 j]; exact h _ _ _ _

/-- Positions are brought first. -/
theorem front4 (f : Delta.Arr) (h : S4x2048x16x128.Transposes [1, 0, 2, 3] S2048x4x16x128) :
    transpose S2048x4x16x128 [1, 0, 2, 3] (Delta.cA f) h = cT f :=
  cT_ext fun t b y a => (transpose_apply _ (Delta.cA f) h _ (ix4 b t y a) fun d => match d with
    | ⟨0, _⟩ => rfl
    | ⟨1, _⟩ => rfl
    | ⟨2, _⟩ => rfl
    | ⟨3, _⟩ => rfl).trans rfl
/-- Positions are brought first, for numbers. -/
theorem front3 (f : Delta.Arb) (h : S4x2048x16.Transposes [1, 0, 2] S2048x4x16) :
    transpose S2048x4x16 [1, 0, 2] (Delta.cC f) h = cU f := by
  funext j
  rw [eq_ix3 j]
  exact (transpose_apply _ (Delta.cC f) h _ (ix3 (j 1) (j 0) (j 2)) fun d => match d with
    | ⟨0, _⟩ => rfl
    | ⟨1, _⟩ => rfl
    | ⟨2, _⟩ => rfl).trans rfl

variable {m : (ℓ : Loc nD τ sig) → Buf (Elt Ideal) ℓ} {c : Dev nD} {q k v g : Delta.Arr} {be : Delta.Arb}

/-- What the loop carries at its entry. -/
theorem entry (A : RArgs m c q k v g be) :
    Carried (fun b t y a => q b t y a * sc) k v g be 0 (entryContents Value.preI m c) where
  hq := by
    simp only [entryContents, afterL_cons, afterL_nil]
    after_reads_simp
    refine (congrArg (fun z : FVec Ideal S4x2048x16x128 .f32 => mulf (F := Ideal) (φ := .f32)
      (transpose S2048x4x16x128 [1, 0, 2, 3] z transposes_S4x2048x16x128_S2048x4x16x128_1_0_2_3) _) A.hq).trans ?_
    rw [front4]
    refine cT_ext fun t b y a => ?_
    refine (congrArg (fun z => cT q (ix4 t b y a) * z) ((broadcastInDim_scalar_apply _ _ _).trans sc_coe)).trans ?_
    exact (EReal.coe_mul _ _).symm
  hk := by
    simp only [entryContents, afterL_cons, afterL_nil]
    after_reads_simp
    exact (congrArg (fun z : FVec Ideal S4x2048x16x128 .f32 => transpose S2048x4x16x128 [1, 0, 2, 3] z _) A.hk).trans (front4 _ _)
  hv := by
    simp only [entryContents, afterL_cons, afterL_nil]
    after_reads_simp
    exact (congrArg (fun z : FVec Ideal S4x2048x16x128 .f32 => transpose S2048x4x16x128 [1, 0, 2, 3] z _) A.hv).trans (front4 _ _)
  hg := by
    simp only [entryContents, afterL_cons, afterL_nil]
    after_reads_simp
    exact (congrArg (fun z : FVec Ideal S4x2048x16x128 .f32 => transpose S2048x4x16x128 [1, 0, 2, 3] z _) A.hg).trans (front4 _ _)
  hbe := by
    simp only [entryContents, afterL_cons, afterL_nil]
    after_reads_simp
    exact (congrArg (fun z : FVec Ideal S4x2048x16 .f32 => transpose S2048x4x16 [1, 0, 2] z _) A.hbe).trans (front3 _ _)
  hi := Value.ctr_entry m c
  hs := by
    simp only [entryContents, afterL_cons, afterL_nil]
    after_reads_simp
    exact c4_ext fun b y a x => (broadcastInDim_scalar_apply _ _ _).trans Ideal.ofBits_zero_f32

/-- After `n` trips: what the loop carries, and the results of the positions so far. -/
theorem trips (A : RArgs m c q k v g be) : ∀ n : ℕ, n ≤ 2048 →
    Carried (fun b t y a => q b t y a * sc) k v g be n (Value.STEP^[n] (entryContents Value.preI m c))
    ∧ ∀ (t : Fin 2048), t.val < n → ∀ (b : Fin 4) (y : Fin 16) (x : Fin 128),
      (Value.STEP^[n] (entryContents Value.preI m c) (Proc.devRef .tc main_v9_7) : FVec Ideal S2048x4x16x128 .f32) (ix4 t b y x)
        = ((Delta.res sc q k v g be b t y x : ℝ) : EReal)
  | 0, _ => ⟨entry A, fun t ht => absurd ht (Nat.not_lt_zero _)⟩
  | n + 1, hn => by
    obtain ⟨H, R⟩ := trips A n (by omega)
    rw [Function.iterate_succ_apply']
    refine ⟨carried ⟨n, hn⟩ H, fun t ht b y x => ?_⟩
    refine (results ⟨n, hn⟩ H t b y x).trans ?_
    by_cases e : t = ⟨n, hn⟩
    · rw [if_pos e]; subst e; rfl
    · rw [if_neg e]
      exact R t (lt_of_le_of_ne (Nat.le_of_lt_succ ht) fun e' => e (Fin.ext e')) b y x

/-- The reference's result. -/
theorem out_real (A : RArgs m c q k v g be) :
    Value.out_main_v10 (Value.STEP^[2048] (entryContents Value.preI m c)) = Delta.cA (Delta.res sc q k v g be) := by
  have e : (Value.STEP^[2048] (entryContents Value.preI m c) (Proc.devRef .tc main_v9_7) : FVec Ideal S2048x4x16x128 .f32)
      = cT (Delta.res sc q k v g be) := cT_ext fun t b y a => (trips A 2048 le_rfl).2 t t.isLt b y a
  unfold Value.out_main_v10
  rw [e]
  funext j
  rw [eq_ix4 j]
  exact (transpose_apply _ (cT _) _ _ (ix4 (j 1) (j 0) (j 2) (j 3)) fun d => match d with
    | ⟨0, _⟩ => rfl
    | ⟨1, _⟩ => rfl
    | ⟨2, _⟩ => rfl
    | ⟨3, _⟩ => rfl).trans rfl

end Cert.ReferenceIdeal.Loop

end
-- ==== Proof.FiniteArgs.lean ====
/- What the precondition says: every argument's elements are real numbers. -/
module

public import proofs.«01_k».proof.Pre_finite_args
public import proofs.«01_k».proof.Proof.Model
public import Idealize.ShloMosaic.Lib.ReduceAll
public import Idealize.ShloMosaic.Lib.IdealHost

@[expose] public section

noncomputable section

namespace Cert.Pre_finite_args

open Idealize.ShloMosaic Idealize.ShloMosaic.ValueIdx

/-- The function's side conditions. -/
instance finiteFacts : Facts where
  bcast_S_S4x2048x16x128 := by decide
  reducesTo_S4x2048x16x128_S_d0_1_2_3 := by decide
  h_S_ := by decide
  bcast_S_S4x2048x16 := by decide
  reducesTo_S4x2048x16_S_d0_1_2 := by decide

/-- A value whose magnitude is below infinity is a real number. -/
theorem real_of_lt (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have h' : max x (-x) < ⊤ := by
    by_contra hn
    simp [Ideal.cmp, hn] at h
  rw [max_lt_iff] at h'
  refine (EReal.coe_toReal h'.1.ne ?_).symm
  rintro rfl
  exact absurd h'.2 (by simp)

/-- Two bits with conjunction one are one. -/
theorem both {a b : BitVec 1} (h : IntOp.andi a b = 1#1) : a = 1#1 ∧ b = 1#1 := by
  revert h; revert a b; decide

/-- An array whose elements are all found finite is a real array. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : x i = (((x i : EReal).toReal : ℝ) : EReal) := by
  haveI : Subsingleton S_.Idx := ⟨fun a b => funext fun d => d.elim0⟩
  have e := Host.reduce_andi_all _ _ hr hu j h i
  refine real_of_lt (x i) (Eq.trans ?_ e)
  exact congrArg (Ideal.cmp .olt (max (x i : EReal) (-(x i : EReal))))
    (broadcastInDim_scalar_apply hb (constant (F := Ideal) S_ .f32 0x7F800000#32) i).symm

/-- The real array of an argument. -/
def realA (x : FVec Ideal S4x2048x16x128 .f32) : Delta.Arr := fun b t h a => (x (ix4 b t h a) : EReal).toReal
/-- The real array of the last argument. -/
def realC (x : FVec Ideal S4x2048x16 .f32) : Delta.Arb := fun b t h => (x (ix3 b t h) : EReal).toReal

/-- Under the precondition every argument is a real array. -/
theorem real_args (x0 x1 x2 x3 : FVec Ideal S4x2048x16x128 .f32) (x4 : FVec Ideal S4x2048x16 .f32)
    (h : fn (F := Ideal) x0 x1 x2 x3 x4 = fun _ => 1#1) :
    x0 = Delta.cA (realA x0) ∧ x1 = Delta.cA (realA x1) ∧ x2 = Delta.cA (realA x2) ∧ x3 = Delta.cA (realA x3)
      ∧ x4 = Delta.cC (realC x4) := by
  have e := congrFun h ix0
  obtain ⟨e, e4⟩ := both e
  obtain ⟨e, e3⟩ := both e
  obtain ⟨e, e2⟩ := both e
  obtain ⟨e0, e1⟩ := both e
  have A : ∀ x : FVec Ideal S4x2048x16x128 .f32, (∀ i, x i = (((x i : EReal).toReal : ℝ) : EReal)) → x = Delta.cA (realA x) := by
    intro x hx
    funext i
    rw [hx i]
    conv_lhs => rw [eq_ix4 i]
    rfl
  refine ⟨A x0 (real_of_all x0 _ _ _ _ e0), A x1 (real_of_all x1 _ _ _ _ e1), A x2 (real_of_all x2 _ _ _ _ e2),
    A x3 (real_of_all x3 _ _ _ _ e3), funext fun i => ?_⟩
  rw [real_of_all x4 _ _ _ _ e4 i]
  conv_lhs => rw [eq_ix3 i]
  rfl

end Cert.Pre_finite_args

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.RefValue
public import proofs.«01_k».proof.Proof.FiniteArgs
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments and ends with no counter raised. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Both programs end with the model's result of the real arrays that the arguments hold. -/
theorem values : Cert.algebraic_KernelIdeal_ReferenceIdeal_pre_finite_args (hKernelIdeal := Cert.KernelIdeal.Gen.facts)
    (hReferenceIdeal := Cert.ReferenceIdeal.Gen.facts) (hPre_finite_args := Cert.Pre_finite_args.finiteFacts) := by
  intro m g m' g' hpre hargs
  have R := fun c => Cert.Pre_finite_args.real_args _ _ _ _ _ (hpre c)
  refine ⟨fun c => Delta.cA (Delta.res Cert.KernelIdeal.Lane.sc
        (Cert.Pre_finite_args.realA (m ((c.tc : Thread Cert.KernelIdeal.nD Cert.KernelIdeal.τ).loc Cert.KernelIdeal.main_arg0)))
        (Cert.Pre_finite_args.realA (m ((c.tc : Thread Cert.KernelIdeal.nD Cert.KernelIdeal.τ).loc Cert.KernelIdeal.main_arg1)))
        (Cert.Pre_finite_args.realA (m ((c.tc : Thread Cert.KernelIdeal.nD Cert.KernelIdeal.τ).loc Cert.KernelIdeal.main_arg2)))
        (Cert.Pre_finite_args.realA (m ((c.tc : Thread Cert.KernelIdeal.nD Cert.KernelIdeal.τ).loc Cert.KernelIdeal.main_arg3)))
        (Cert.Pre_finite_args.realC (m ((c.tc : Thread Cert.KernelIdeal.nD Cert.KernelIdeal.τ).loc Cert.KernelIdeal.main_arg4)))),
    (θ_run _ _ _).mono (fun r h c => ⟨?_, h.1 c⟩)
      (θ_run_and (Cert.KernelIdeal.Gen.unchanged m g) (Cert.KernelIdeal.Gen.run_main m g)),
    (θ_run _ _ _).mono (fun r h c => ⟨(h c).1.trans ?_, (h c).2⟩) (Cert.ReferenceIdeal.Value.run m' g')⟩
  · exact Cert.KernelIdeal.Lane.post_real ⟨(R c).1, (R c).2.1, (R c).2.2.1, (R c).2.2.2.1, (R c).2.2.2.2⟩ h.2
  · exact Cert.ReferenceIdeal.Loop.out_real ⟨(hargs c).1.trans (R c).1, (hargs c).2.1.trans (R c).2.1, (hargs c).2.2.1.trans (R c).2.2.1,
      (hargs c).2.2.2.1.trans (R c).2.2.2.1, (hargs c).2.2.2.2.trans (R c).2.2.2.2⟩

/-- Every claim of the certificate. -/
theorem claim : Cert.Claim := ⟨Cert.Kernel.Gen.facts, Cert.KernelIdeal.Gen.facts, Cert.ReferenceIdeal.Gen.facts, Cert.Pre_finite_args.finiteFacts,
  fun m g _ => Cert.Kernel.Gen.frame m g,
  fun m g _ => Cert.KernelIdeal.Gen.frame m g,
  fun m g _ => Cert.KernelIdeal.Gen.frame m g,
  reference_frame,
  fun m g _ => reference_frame m g trivial,
  ⟨IdealRules.bf16_pack.statement _, IdealRules.bf16_pack.statement _, IdealRules.bf16_pack.statement _⟩,
  values⟩

end Cert.Proof

end
